-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x192x32x32 : Shape := ⟨4, ![2, 192, 32, 32]⟩
abbrev S2x192x1024 : Shape := ⟨3, ![2, 192, 1024]⟩
abbrev S2x18x1024 : Shape := ⟨3, ![2, 18, 1024]⟩
abbrev S2x1x1024 : Shape := ⟨3, ![2, 1, 1024]⟩
abbrev S1x192x1024 : Shape := ⟨3, ![1, 192, 1024]⟩
abbrev S1x18x1024 : Shape := ⟨3, ![1, 18, 1024]⟩
abbrev S1x1x1024 : Shape := ⟨3, ![1, 1, 1024]⟩
abbrev S192x1024 : Shape := ⟨2, ![192, 1024]⟩
abbrev S1024 : Shape := ⟨1, ![1024]⟩
abbrev S1x1024 : Shape := ⟨2, ![1, 1024]⟩
abbrev S1x1023 : Shape := ⟨2, ![1, 1023]⟩
abbrev S1x1 : Shape := ⟨2, ![1, 1]⟩
abbrev S1x1022 : Shape := ⟨2, ![1, 1022]⟩
abbrev S1x2 : Shape := ⟨2, ![1, 2]⟩
abbrev S1x992 : Shape := ⟨2, ![1, 992]⟩
abbrev S1x32 : Shape := ⟨2, ![1, 32]⟩
abbrev S1x991 : Shape := ⟨2, ![1, 991]⟩
abbrev S1x33 : Shape := ⟨2, ![1, 33]⟩
abbrev S1x990 : Shape := ⟨2, ![1, 990]⟩
abbrev S1x34 : Shape := ⟨2, ![1, 34]⟩
abbrev S1x960 : Shape := ⟨2, ![1, 960]⟩
abbrev S1x64 : Shape := ⟨2, ![1, 64]⟩
abbrev S1x959 : Shape := ⟨2, ![1, 959]⟩
abbrev S1x65 : Shape := ⟨2, ![1, 65]⟩
abbrev S1x958 : Shape := ⟨2, ![1, 958]⟩
abbrev S1x66 : Shape := ⟨2, ![1, 66]⟩
abbrev S192x1023 : Shape := ⟨2, ![192, 1023]⟩
abbrev S192x1 : Shape := ⟨2, ![192, 1]⟩
abbrev S192x1022 : Shape := ⟨2, ![192, 1022]⟩
abbrev S192x2 : Shape := ⟨2, ![192, 2]⟩
abbrev S192x992 : Shape := ⟨2, ![192, 992]⟩
abbrev S192x32 : Shape := ⟨2, ![192, 32]⟩
abbrev S192x991 : Shape := ⟨2, ![192, 991]⟩
abbrev S192x33 : Shape := ⟨2, ![192, 33]⟩
abbrev S192x990 : Shape := ⟨2, ![192, 990]⟩
abbrev S192x34 : Shape := ⟨2, ![192, 34]⟩
abbrev S192x960 : Shape := ⟨2, ![192, 960]⟩
abbrev S192x64 : Shape := ⟨2, ![192, 64]⟩
abbrev S192x959 : Shape := ⟨2, ![192, 959]⟩
abbrev S192x65 : Shape := ⟨2, ![192, 65]⟩
abbrev S192x958 : Shape := ⟨2, ![192, 958]⟩
abbrev S192x66 : Shape := ⟨2, ![192, 66]⟩
abbrev S1729x1024 : Shape := ⟨2, ![1729, 1024]⟩
abbrev S1729x512 : Shape := ⟨2, ![1729, 512]⟩
abbrev S1024x512 : Shape := ⟨2, ![1024, 512]⟩
abbrev S1024x1 : Shape := ⟨2, ![1024, 1]⟩
abbrev S1024x3 : Shape := ⟨2, ![1024, 3]⟩
abbrev S3x1024 : Shape := ⟨2, ![3, 1024]⟩
abbrev S18x1024 : Shape := ⟨2, ![18, 1024]⟩
abbrev S2x9x2x1024 : Shape := ⟨4, ![2, 9, 2, 1024]⟩
abbrev S2x9x1024x2 : Shape := ⟨4, ![2, 9, 1024, 2]⟩
abbrev S2x9x32x32x2 : Shape := ⟨5, ![2, 9, 32, 32, 2]⟩
abbrev S2x1x1024x2 : Shape := ⟨4, ![2, 1, 1024, 2]⟩
abbrev S2x1024x2 : Shape := ⟨3, ![2, 1024, 2]⟩
abbrev S2x32x32x2 : Shape := ⟨4, ![2, 32, 32, 2]⟩
abbrev S2x1x32x32 : Shape := ⟨4, ![2, 1, 32, 32]⟩

abbrev nBuf : Space → Nat
  | .hbm => 13
  | .vmem => 8
  | .smem => 0
  | _ => 0

abbrev bufTy : (tb : Table) → Fin (tcTables nBuf tb) → BufTy
  | .hbm, ⟨0, _⟩ => ⟨S2x192x32x32, .f32⟩
  | .hbm, ⟨1, _⟩ => ⟨S2x192x32x32, .f32⟩
  | .hbm, ⟨2, _⟩ => ⟨S2x192x1024, .f32⟩
  | .hbm, ⟨3, _⟩ => ⟨S2x192x1024, .f32⟩
  | .hbm, ⟨4, _⟩ => ⟨S2x18x1024, .f32⟩
  | .hbm, ⟨5, _⟩ => ⟨S2x1x1024, .f32⟩
  | .hbm, ⟨6, _⟩ => ⟨S2x9x2x1024, .f32⟩
  | .hbm, ⟨7, _⟩ => ⟨S2x9x1024x2, .f32⟩
  | .hbm, ⟨8, _⟩ => ⟨S2x9x32x32x2, .f32⟩
  | .hbm, ⟨9, _⟩ => ⟨S2x1x1024x2, .f32⟩
  | .hbm, ⟨10, _⟩ => ⟨S2x1024x2, .f32⟩
  | .hbm, ⟨11, _⟩ => ⟨S2x32x32x2, .f32⟩
  | .hbm, ⟨12, _⟩ => ⟨S2x1x32x32, .f32⟩
  | .local _ .vmem, ⟨0, _⟩ => ⟨S1x192x1024, .f32⟩
  | .local _ .vmem, ⟨1, _⟩ => ⟨S1x192x1024, .f32⟩
  | .local _ .vmem, ⟨2, _⟩ => ⟨S1x192x1024, .f32⟩
  | .local _ .vmem, ⟨3, _⟩ => ⟨S1x192x1024, .f32⟩
  | .local _ .vmem, ⟨4, _⟩ => ⟨S1x18x1024, .f32⟩
  | .local _ .vmem, ⟨5, _⟩ => ⟨S1x18x1024, .f32⟩
  | .local _ .vmem, ⟨6, _⟩ => ⟨S1x1x1024, .f32⟩
  | .local _ .vmem, ⟨7, _⟩ => ⟨S1x1x1024, .f32⟩
  | _, _ => ⟨S2x192x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x18x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x192x32x32 : Shape := ⟨4, ![2, 192, 32, 32]⟩
abbrev S_ : Shape := ⟨0, ![]⟩
abbrev S2x32x32 : Shape := ⟨3, ![2, 32, 32]⟩
abbrev S2x1x32x32 : Shape := ⟨4, ![2, 1, 32, 32]⟩
abbrev S2x192x30x30 : Shape := ⟨4, ![2, 192, 30, 30]⟩
abbrev S2x192x1x30x30 : Shape := ⟨5, ![2, 192, 1, 30, 30]⟩
abbrev S2x192x9x30x30 : Shape := ⟨5, ![2, 192, 9, 30, 30]⟩
abbrev S2x1728x900 : Shape := ⟨3, ![2, 1728, 900]⟩
abbrev S2x900 : Shape := ⟨2, ![2, 900]⟩
abbrev S2x1x900 : Shape := ⟨3, ![2, 1, 900]⟩
abbrev S2x900x900 : Shape := ⟨3, ![2, 900, 900]⟩
abbrev S2x1x30x30 : Shape := ⟨4, ![2, 1, 30, 30]⟩
abbrev S2x30x30 : Shape := ⟨3, ![2, 30, 30]⟩
abbrev S30 : Shape := ⟨1, ![30]⟩
abbrev S30x30 : Shape := ⟨2, ![30, 30]⟩
abbrev S30x30x1 : Shape := ⟨3, ![30, 30, 1]⟩
abbrev S30x30x2 : Shape := ⟨3, ![30, 30, 2]⟩
abbrev S1x30x30x2 : Shape := ⟨4, ![1, 30, 30, 2]⟩
abbrev S2x30x30x1 : Shape := ⟨4, ![2, 30, 30, 1]⟩
abbrev S2x30x30x2 : Shape := ⟨4, ![2, 30, 30, 2]⟩
abbrev S2x32x32x2 : Shape := ⟨4, ![2, 32, 32, 2]⟩
abbrev S2x32x31x2 : Shape := ⟨4, ![2, 32, 31, 2]⟩
abbrev S2x32x30x2 : Shape := ⟨4, ![2, 32, 30, 2]⟩
abbrev S2x31x32x2 : Shape := ⟨4, ![2, 31, 32, 2]⟩
abbrev S2x31x31x2 : Shape := ⟨4, ![2, 31, 31, 2]⟩
abbrev S2x31x30x2 : Shape := ⟨4, ![2, 31, 30, 2]⟩
abbrev S2x30x32x2 : Shape := ⟨4, ![2, 30, 32, 2]⟩
abbrev S2x30x31x2 : Shape := ⟨4, ![2, 30, 31, 2]⟩
abbrev S2x1x32x32x2 : Shape := ⟨5, ![2, 1, 32, 32, 2]⟩
abbrev S2x9x32x32x2 : Shape := ⟨5, ![2, 9, 32, 32, 2]⟩

abbrev nBuf : Space → Nat
  | .hbm => 196
  | .vmem => 0
  | .smem => 0
  | _ => 0

abbrev hbmTy0_0 (i : Nat) : BufTy := match i % 128 with
  | 0 => ⟨S2x192x32x32, .f32⟩
  | 1 => ⟨S2x192x32x32, .f32⟩
  | 2 => ⟨S2x192x32x32, .f32⟩
  | 3 => ⟨S_, .f32⟩
  | 4 => ⟨S2x32x32, .f32⟩
  | 5 => ⟨S2x1x32x32, .f32⟩
  | 6 => ⟨S2x1x32x32, .f32⟩
  | 7 => ⟨S_, .f32⟩
  | 8 => ⟨S2x1x32x32, .f32⟩
  | 9 => ⟨S2x1x32x32, .f32⟩
  | 10 => ⟨S2x192x32x32, .f32⟩
  | 11 => ⟨S2x192x32x32, .f32⟩
  | 12 => ⟨S2x192x30x30, .f32⟩
  | 13 => ⟨S2x192x30x30, .f32⟩
  | 14 => ⟨S2x192x30x30, .f32⟩
  | 15 => ⟨S2x192x30x30, .f32⟩
  | 16 => ⟨S2x192x30x30, .f32⟩
  | 17 => ⟨S2x192x30x30, .f32⟩
  | 18 => ⟨S2x192x30x30, .f32⟩
  | 19 => ⟨S2x192x30x30, .f32⟩
  | 20 => ⟨S2x192x30x30, .f32⟩
  | 21 => ⟨S2x192x1x30x30, .f32⟩
  | 22 => ⟨S2x192x1x30x30, .f32⟩
  | 23 => ⟨S2x192x1x30x30, .f32⟩
  | 24 => ⟨S2x192x1x30x30, .f32⟩
  | 25 => ⟨S2x192x1x30x30, .f32⟩
  | 26 => ⟨S2x192x1x30x30, .f32⟩
  | 27 => ⟨S2x192x1x30x30, .f32⟩
  | 28 => ⟨S2x192x1x30x30, .f32⟩
  | 29 => ⟨S2x192x1x30x30, .f32⟩
  | 30 => ⟨S2x192x9x30x30, .f32⟩
  | 31 => ⟨S2x1728x900, .f32⟩
  | 32 => ⟨S2x192x32x32, .f32⟩
  | 33 => ⟨S_, .f32⟩
  | 34 => ⟨S2x32x32, .f32⟩
  | 35 => ⟨S2x1x32x32, .f32⟩
  | 36 => ⟨S2x1x32x32, .f32⟩
  | 37 => ⟨S_, .f32⟩
  | 38 => ⟨S2x1x32x32, .f32⟩
  | 39 => ⟨S2x1x32x32, .f32⟩
  | 40 => ⟨S2x192x32x32, .f32⟩
  | 41 => ⟨S2x192x32x32, .f32⟩
  | 42 => ⟨S2x192x30x30, .f32⟩
  | 43 => ⟨S2x192x30x30, .f32⟩
  | 44 => ⟨S2x192x30x30, .f32⟩
  | 45 => ⟨S2x192x30x30, .f32⟩
  | 46 => ⟨S2x192x30x30, .f32⟩
  | 47 => ⟨S2x192x30x30, .f32⟩
  | 48 => ⟨S2x192x30x30, .f32⟩
  | 49 => ⟨S2x192x30x30, .f32⟩
  | 50 => ⟨S2x192x30x30, .f32⟩
  | 51 => ⟨S2x192x1x30x30, .f32⟩
  | 52 => ⟨S2x192x1x30x30, .f32⟩
  | 53 => ⟨S2x192x1x30x30, .f32⟩
  | 54 => ⟨S2x192x1x30x30, .f32⟩
  | 55 => ⟨S2x192x1x30x30, .f32⟩
  | 56 => ⟨S2x192x1x30x30, .f32⟩
  | 57 => ⟨S2x192x1x30x30, .f32⟩
  | 58 => ⟨S2x192x1x30x30, .f32⟩
  | 59 => ⟨S2x192x1x30x30, .f32⟩
  | 60 => ⟨S2x192x9x30x30, .f32⟩
  | 61 => ⟨S2x1728x900, .f32⟩
  | 62 => ⟨S2x1728x900, .f32⟩
  | 63 => ⟨S_, .f32⟩
  | 64 => ⟨S2x900, .f32⟩
  | 65 => ⟨S2x1x900, .f32⟩
  | 66 => ⟨S2x1x900, .f32⟩
  | 67 => ⟨S_, .f32⟩
  | 68 => ⟨S2x1x900, .f32⟩
  | 69 => ⟨S2x1x900, .f32⟩
  | 70 => ⟨S2x1728x900, .f32⟩
  | 71 => ⟨S2x1728x900, .f32⟩
  | 72 => ⟨S2x900x900, .f32⟩
  | 73 => ⟨S_, .f32⟩
  | 74 => ⟨S2x900, .f32⟩
  | 75 => ⟨S2x900x900, .i32⟩
  | 76 => ⟨S_, .f32⟩
  | 77 => ⟨S_, .i32⟩
  | 78 => ⟨S2x900, .f32⟩
  | 79 => ⟨S2x900, .i32⟩
  | 80 => ⟨S2x1728x900, .f32⟩
  | 81 => ⟨S_, .f32⟩
  | 82 => ⟨S2x900, .f32⟩
  | 83 => ⟨S2x900, .f32⟩
  | 84 => ⟨S_, .f32⟩
  | 85 => ⟨S2x900, .f32⟩
  | 86 => ⟨S2x900, .f32⟩
  | 87 => ⟨S2x900, .f32⟩
  | 88 => ⟨S2x1x30x30, .f32⟩
  | 89 => ⟨S_, .i32⟩
  | 90 => ⟨S_, .f32⟩
  | 91 => ⟨S2x1x32x32, .f32⟩
  | 92 => ⟨S2x30x30, .i32⟩
  | 93 => ⟨S30, .i32⟩
  | 94 => ⟨S30, .i32⟩
  | 95 => ⟨S30x30, .i32⟩
  | 96 => ⟨S30x30, .i32⟩
  | 97 => ⟨S30x30x1, .i32⟩
  | 98 => ⟨S30x30x1, .i32⟩
  | 99 => ⟨S30x30x2, .i32⟩
  | 100 => ⟨S1x30x30x2, .i32⟩
  | 101 => ⟨S1x30x30x2, .f32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S2x30x30, .i32⟩
  | 109 => ⟨S2x30x30, .i32⟩
  | 110 => ⟨S_, .i32⟩
  | 111 => ⟨S2x30x30, .i32⟩
  | 112 => ⟨S2x30x30, .i1⟩
  | 113 => ⟨S_, .i32⟩
  | 114 => ⟨S2x30x30, .i32⟩
  | 115 => ⟨S2x30x30, .i1⟩
  | 116 => ⟨S_, .i32⟩
  | 117 => ⟨S_, .i1⟩
  | 118 => ⟨S2x30x30, .i1⟩
  | 119 => ⟨S2x30x30, .i1⟩
  | 120 => ⟨S2x30x30, .i1⟩
  | 121 => ⟨S2x30x30, .i32⟩
  | 122 => ⟨S2x30x30, .i32⟩
  | 123 => ⟨S2x30x30, .i32⟩
  | 124 => ⟨S_, .i32⟩
  | 125 => ⟨S_, .i32⟩
  | 126 => ⟨S2x30x30, .i32⟩
  | 127 => ⟨S2x30x30, .i32⟩
  | _ => ⟨S2x192x32x32, .f32⟩

abbrev hbmTy0_1 (i : Nat) : BufTy := match i % 128 with
  | 0 => ⟨S2x30x30, .i32⟩
  | 1 => ⟨S_, .i32⟩
  | 2 => ⟨S2x30x30, .i32⟩
  | 3 => ⟨S2x30x30, .i1⟩
  | 4 => ⟨S2x30x30, .i32⟩
  | 5 => ⟨S2x30x30, .i32⟩
  | 6 => ⟨S_, .i32⟩
  | 7 => ⟨S2x30x30, .i32⟩
  | 8 => ⟨S2x30x30, .i1⟩
  | 9 => ⟨S2x30x30, .i1⟩
  | 10 => ⟨S_, .i32⟩
  | 11 => ⟨S2x30x30, .i32⟩
  | 12 => ⟨S2x30x30, .i32⟩
  | 13 => ⟨S2x30x30, .i32⟩
  | 14 => ⟨S2x30x30x1, .i32⟩
  | 15 => ⟨S2x30x30x1, .i32⟩
  | 16 => ⟨S2x30x30x2, .i32⟩
  | 17 => ⟨S2x30x30x2, .f32⟩
  | 18 => ⟨S2x30x30x2, .f32⟩
  | 19 => ⟨S2x30x30x2, .f32⟩
  | 20 => ⟨S_, .i32⟩
  | 21 => ⟨S_, .f32⟩
  | 22 => ⟨S2x32x32x2, .f32⟩
  | 23 => ⟨S_, .i32⟩
  | 24 => ⟨S_, .f32⟩
  | 25 => ⟨S2x32x32x2, .f32⟩
  | 26 => ⟨S2x32x31x2, .f32⟩
  | 27 => ⟨S_, .i32⟩
  | 28 => ⟨S_, .f32⟩
  | 29 => ⟨S2x32x32x2, .f32⟩
  | 30 => ⟨S2x32x30x2, .f32⟩
  | 31 => ⟨S_, .i32⟩
  | 32 => ⟨S_, .f32⟩
  | 33 => ⟨S2x32x32x2, .f32⟩
  | 34 => ⟨S2x31x32x2, .f32⟩
  | 35 => ⟨S_, .i32⟩
  | 36 => ⟨S_, .f32⟩
  | 37 => ⟨S2x32x32x2, .f32⟩
  | 38 => ⟨S2x31x31x2, .f32⟩
  | 39 => ⟨S_, .i32⟩
  | 40 => ⟨S_, .f32⟩
  | 41 => ⟨S2x32x32x2, .f32⟩
  | 42 => ⟨S2x31x30x2, .f32⟩
  | 43 => ⟨S_, .i32⟩
  | 44 => ⟨S_, .f32⟩
  | 45 => ⟨S2x32x32x2, .f32⟩
  | 46 => ⟨S2x30x32x2, .f32⟩
  | 47 => ⟨S_, .i32⟩
  | 48 => ⟨S_, .f32⟩
  | 49 => ⟨S2x32x32x2, .f32⟩
  | 50 => ⟨S2x30x31x2, .f32⟩
  | 51 => ⟨S_, .i32⟩
  | 52 => ⟨S_, .f32⟩
  | 53 => ⟨S2x32x32x2, .f32⟩
  | 54 => ⟨S2x30x30x2, .f32⟩
  | 55 => ⟨S_, .i32⟩
  | 56 => ⟨S_, .f32⟩
  | 57 => ⟨S2x32x32x2, .f32⟩
  | 58 => ⟨S2x1x32x32x2, .f32⟩
  | 59 => ⟨S2x1x32x32x2, .f32⟩
  | 60 => ⟨S2x1x32x32x2, .f32⟩
  | 61 => ⟨S2x1x32x32x2, .f32⟩
  | 62 => ⟨S2x1x32x32x2, .f32⟩
  | 63 => ⟨S2x1x32x32x2, .f32⟩
  | 64 => ⟨S2x1x32x32x2, .f32⟩
  | 65 => ⟨S2x1x32x32x2, .f32⟩
  | 66 => ⟨S2x1x32x32x2, .f32⟩
  | 67 => ⟨S2x9x32x32x2, .f32⟩
  | _ => ⟨S2x192x32x32, .f32⟩

abbrev hbmTy (i : Nat) : BufTy := match i / 128 with
  | 0 => hbmTy0_0 i
  | 1 => hbmTy0_1 i
  | _ => ⟨S2x192x32x32, .f32⟩

abbrev bufTy : (tb : Table) → Fin (tcTables nBuf tb) → BufTy
  | .hbm, ⟨i, _⟩ => hbmTy i
  | _, _ => ⟨S2x192x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst_3 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_4 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_5 : Ref sig .tc := ⟨.hbm, 73, rfl⟩
abbrev main_v65 : Ref sig .tc := ⟨.hbm, 74, rfl⟩
abbrev main_call0_v0 : Ref sig .tc := ⟨.hbm, 75, rfl⟩
abbrev main_call0_cst : Ref sig .tc := ⟨.hbm, 76, rfl⟩
abbrev main_call0_c : Ref sig .tc := ⟨.hbm, 77, rfl⟩
abbrev main_call0_v1_0 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_cst_7 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c : Ref sig .tc := ⟨.hbm, 89, rfl⟩
abbrev main_call1_v0 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_c_8 : Ref sig .tc := ⟨.hbm, 102, rfl⟩
abbrev main_call2_v0 : Ref sig .tc := ⟨.hbm, 103, rfl⟩
abbrev main_call2_c : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_c_1 : Ref sig .tc := ⟨.hbm, 110, rfl⟩
abbrev main_call2_v5 : Ref sig .tc := ⟨.hbm, 111, rfl⟩
abbrev main_call2_v6 : Ref sig .tc := ⟨.hbm, 112, rfl⟩
abbrev main_call2_c_2 : Ref sig .tc := ⟨.hbm, 113, rfl⟩
abbrev main_call2_v7 : Ref sig .tc := ⟨.hbm, 114, rfl⟩
abbrev main_call2_v8 : Ref sig .tc := ⟨.hbm, 115, rfl⟩
abbrev main_call2_c_3 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_v85 : Ref sig .tc := ⟨.hbm, 123, rfl⟩
abbrev main_c_9 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_c : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_call3_c_0 : Ref sig .tc := ⟨.hbm, 138, rfl⟩
abbrev main_call3_v12 : Ref sig .tc := ⟨.hbm, 139, rfl⟩
abbrev main_call3_v13 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_10 : Ref sig .tc := ⟨.hbm, 148, rfl⟩
abbrev main_call4_v0 : Ref sig .tc := ⟨.hbm, 149, rfl⟩
abbrev main_v93 : Ref sig .tc := ⟨.hbm, 150, rfl⟩
abbrev main_c_11 : Ref sig .tc := ⟨.hbm, 151, rfl⟩
abbrev main_call5_v0 : Ref sig .tc := ⟨.hbm, 152, rfl⟩
abbrev main_v94 : Ref sig .tc := ⟨.hbm, 153, rfl⟩
abbrev main_v95 : Ref sig .tc := ⟨.hbm, 154, rfl⟩
abbrev main_c_12 : Ref sig .tc := ⟨.hbm, 155, rfl⟩
abbrev main_call6_v0 : Ref sig .tc := ⟨.hbm, 156, rfl⟩
abbrev main_v96 : Ref sig .tc := ⟨.hbm, 157, rfl⟩
abbrev main_v97 : Ref sig .tc := ⟨.hbm, 158, rfl⟩
abbrev main_c_13 : Ref sig .tc := ⟨.hbm, 159, rfl⟩
abbrev main_call7_v0 : Ref sig .tc := ⟨.hbm, 160, rfl⟩
abbrev main_v98 : Ref sig .tc := ⟨.hbm, 161, rfl⟩
abbrev main_v99 : Ref sig .tc := ⟨.hbm, 162, rfl⟩
abbrev main_c_14 : Ref sig .tc := ⟨.hbm, 163, rfl⟩
abbrev main_call8_v0 : Ref sig .tc := ⟨.hbm, 164, rfl⟩
abbrev main_v100 : Ref sig .tc := ⟨.hbm, 165, rfl⟩
abbrev main_v101 : Ref sig .tc := ⟨.hbm, 166, rfl⟩
abbrev main_c_15 : Ref sig .tc := ⟨.hbm, 167, rfl⟩
abbrev main_call9_v0 : Ref sig .tc := ⟨.hbm, 168, rfl⟩
abbrev main_v102 : Ref sig .tc := ⟨.hbm, 169, rfl⟩
abbrev main_v103 : Ref sig .tc := ⟨.hbm, 170, rfl⟩
abbrev main_c_16 : Ref sig .tc := ⟨.hbm, 171, rfl⟩
abbrev main_call10_v0 : Ref sig .tc := ⟨.hbm, 172, rfl⟩
abbrev main_v104 : Ref sig .tc := ⟨.hbm, 173, rfl⟩
abbrev main_v105 : Ref sig .tc := ⟨.hbm, 174, rfl⟩
abbrev main_c_17 : Ref sig .tc := ⟨.hbm, 175, rfl⟩
abbrev main_call11_v0 : Ref sig .tc := ⟨.hbm, 176, rfl⟩
abbrev main_v106 : Ref sig .tc := ⟨.hbm, 177, rfl⟩
abbrev main_v107 : Ref sig .tc := ⟨.hbm, 178, rfl⟩
abbrev main_c_18 : Ref sig .tc := ⟨.hbm, 179, rfl⟩
abbrev main_call12_v0 : Ref sig .tc := ⟨.hbm, 180, rfl⟩
abbrev main_v108 : Ref sig .tc := ⟨.hbm, 181, rfl⟩
abbrev main_v109 : Ref sig .tc := ⟨.hbm, 182, rfl⟩
abbrev main_c_19 : Ref sig .tc := ⟨.hbm, 183, rfl⟩
abbrev main_call13_v0 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩

abbrev nD : Nat := 1
abbrev τ : Topo := Topo.v7x

variable {F : FTy → Type} [FloatOps F]
-- ==== Proof.Columns.lean ====
module

public import Idealize.ShloMosaic.PureOps.Ideal
public import Idealize.ShloMosaic.PureOps.Ideal.Laws

/-! The mathematics of one pair of feature maps, over the extended reals: columns of 192 entries, divided by their
    lengths, are real numbers of absolute value at most one; so the correlations are real and bounded, and a masked
    column is below every column that is not masked. -/

@[expose] public section

namespace Cert.Proof

open Idealize.ShloMosaic

/-- The smallest length a column is divided by. -/
noncomputable abbrev tiny : EReal := Ideal.ofBits .f32 0x2B8CBCCC#32
/-- What is added to a patch's length. -/
noncomputable abbrev small : EReal := Ideal.ofBits .f32 0x3727C5AC#32
/-- What is added to a masked column's correlations. -/
noncomputable abbrev low : EReal := Ideal.ofBits .f32 0xFF61B1E6#32

/-- The least length that columns are divided by is a positive real. -/
theorem tiny_eq : ∃ r : ℝ, tiny = (r : EReal) ∧ 0 < r :=
  ⟨_, by simp [Ideal.ofBits, Ideal.ieee, -EReal.coe_mul]; rfl, by norm_num⟩

/-- The constant added to a patch's length is a real, and not too small. -/
theorem small_eq : ∃ r : ℝ, small = (r : EReal) ∧ (2 : ℝ)⁻¹ ^ 17 ≤ r :=
  ⟨_, by simp [Ideal.ofBits, Ideal.ieee, -EReal.coe_mul]; rfl, by norm_num⟩

/-- The mask's constant is a real far below zero. -/
theorem low_eq : ∃ r : ℝ, low = (r : EReal) ∧ r ≤ -2 ^ 127 :=
  ⟨_, by simp [Ideal.ofBits, Ideal.ieee, -EReal.coe_mul, -EReal.coe_neg]; rfl, by norm_num⟩

/-- The word of one. -/
theorem one_eq : Ideal.ofBits .f32 0x3F800000#32 = 1 := by
  simp [Ideal.ofBits, Ideal.ieee, -EReal.coe_mul]; norm_num

/-- The word of minus infinity. -/
theorem bot_eq : Ideal.ofBits .f32 0xFF800000#32 = ⊥ := by
  simp [Ideal.ofBits, Ideal.ieee, -EReal.coe_mul]

/-- `x` is a real number of absolute value at most `M`. -/
def Bdd (M : ℝ) (x : EReal) : Prop := ∃ r : ℝ, x = (r : EReal) ∧ |r| ≤ M

/-- Zero is bounded. -/
theorem Bdd.zero {M : ℝ} (h : 0 ≤ M) : Bdd M 0 := ⟨0, rfl, by simpa using h⟩

/-- A product of bounded values is bounded. -/
theorem Bdd.mul {M N : ℝ} {x y : EReal} (hx : Bdd M x) (hy : Bdd N y) : Bdd (M * N) (x * y) := by
  obtain ⟨r, rfl, hr⟩ := hx
  obtain ⟨s, rfl, hs⟩ := hy
  refine ⟨r * s, (EReal.coe_mul r s).symm, ?_⟩
  rw [abs_mul]
  exact mul_le_mul hr hs (abs_nonneg _) ((abs_nonneg _).trans hr)

/-- A sum of bounded values is bounded. -/
theorem Bdd.sum {ι : Type} (s : Finset ι) {M : ℝ} {x : ι → EReal} (h : ∀ i, Bdd M (x i)) : Bdd (s.card * M) (∑ i ∈ s, x i) := by
  choose r hr hb using h
  refine ⟨∑ i ∈ s, r i, ?_, ?_⟩
  · rw [Finset.sum_congr rfl fun i _ => hr i]
    exact (map_sum (⟨⟨Real.toEReal, rfl⟩, EReal.coe_add⟩ : ℝ →+ EReal) r s).symm
  · refine (Finset.abs_sum_le_sum_abs _ _).trans ?_
    calc ∑ i ∈ s, |r i| ≤ ∑ _i ∈ s, M := Finset.sum_le_sum fun i _ => hb i
      _ = s.card * M := by simp

/-- A sum of reals among the extended reals. -/
theorem coe_sum {ι : Type} (s : Finset ι) (r : ι → ℝ) : ((∑ i ∈ s, r i : ℝ) : EReal) = ∑ i ∈ s, (r i : EReal) :=
  map_sum (⟨⟨Real.toEReal, rfl⟩, EReal.coe_add⟩ : ℝ →+ EReal) r s

/-- The length of a column. -/
noncomputable def len (x : Fin 192 → EReal) : EReal := Ideal.sqrt (∑ c, x c * x c)

/-- A column divided by its length. -/
noncomputable def unit (x : Fin 192 → EReal) (c : Fin 192) : EReal := Ideal.div (x c) (max (len x) tiny)

/-- A quotient of reals among the extended reals. -/
theorem div_coe {r s : ℝ} (hs : s ≠ 0) : Ideal.div (r : EReal) (s : EReal) = ((r / s : ℝ) : EReal) := by
  rw [Ideal.div, if_neg (by exact_mod_cast hs), ← EReal.coe_inv, ← EReal.coe_mul, div_eq_mul_inv]

/-- A column has an infinite length, or all its entries are real. -/
theorem column_cases (x : Fin 192 → EReal) : len x = ⊤ ∨ ∃ a : Fin 192 → ℝ, ∀ c, x c = (a c : EReal) := by
  by_cases h : ∃ c, x c = ⊤ ∨ x c = ⊥
  · left
    obtain ⟨c, hc⟩ := h
    have hsq : ∀ d, 0 ≤ x d * x d := fun d => by
      induction hd : x d with
      | bot => simp
      | top => simp
      | coe r => rw [← EReal.coe_mul]; exact_mod_cast mul_self_nonneg r
    have htop : x c * x c = ⊤ := by rcases hc with hc | hc <;> simp [hc]
    have : (∑ d, x d * x d) = ⊤ := by
      rw [← top_le_iff, ← htop]
      exact Finset.single_le_sum (f := fun d => x d * x d) (fun d _ => hsq d) (Finset.mem_univ c)
    rw [len, this, Ideal.sqrt_top]
  · right
    push Not at h
    exact ⟨fun c => (x c).toReal, fun c => (EReal.coe_toReal (h c).1 (h c).2).symm⟩

/-- A column of reals has a real length. -/
theorem len_real {x : Fin 192 → EReal} {a : Fin 192 → ℝ} (h : ∀ c, x c = (a c : EReal)) :
    len x = ((Real.sqrt (∑ c, a c * a c) : ℝ) : EReal) := by
  have : (∑ c, x c * x c) = ((∑ c, a c * a c : ℝ) : EReal) := by
    rw [coe_sum]
    exact Finset.sum_congr rfl fun c _ => by rw [h c, EReal.coe_mul]
  rw [len, this, Ideal.sqrt_coe, if_neg (not_lt.mpr (Finset.sum_nonneg fun c _ => mul_self_nonneg (a c)))]

/-- The larger of two reals among the extended reals. -/
theorem coe_max' (r s : ℝ) : ((max r s : ℝ) : EReal) = max (r : EReal) (s : EReal) := EReal.coe_strictMono.monotone.map_max

/-- Nothing exceeds infinity. -/
theorem max_top : max (⊤ : EReal) tiny = ⊤ := max_eq_left le_top

/-- A column divided by its length has real entries of absolute value at most one. -/
theorem unit_bdd (x : Fin 192 → EReal) (c : Fin 192) : Bdd 1 (unit x c) := by
  rcases column_cases x with h | ⟨a, ha⟩
  · have : unit x c = 0 := by simp [unit, h, Ideal.div]
    rw [this]
    exact Bdd.zero zero_le_one
  · obtain ⟨e, he, hp⟩ := tiny_eq
    have hm : 0 < max (Real.sqrt (∑ c, a c * a c)) e := lt_max_of_lt_right hp
    refine ⟨a c / max (Real.sqrt (∑ c, a c * a c)) e, ?_, ?_⟩
    · rw [unit, len_real ha, he, ha c, ← coe_max', div_coe hm.ne']
    · rw [abs_div, abs_of_pos hm, div_le_one hm]
      refine le_max_of_le_left (Real.le_sqrt_of_sq_le ?_)
      rw [sq_abs, sq]
      exact Finset.single_le_sum (f := fun c => a c * a c) (fun c _ => mul_self_nonneg (a c)) (Finset.mem_univ c)

/-- The squared length of a normalized column, in the two ways it is computed. -/
theorem unit_sq (x : Fin 192 → EReal) :
    Ideal.div (len x) (max (len x) tiny) * Ideal.div (len x) (max (len x) tiny) = ∑ c, unit x c * unit x c := by
  rcases column_cases x with h | ⟨a, ha⟩
  · simp [unit, h, Ideal.div]
  · obtain ⟨e, he, hp⟩ := tiny_eq
    have hm : 0 < max (Real.sqrt (∑ c, a c * a c)) e := lt_max_of_lt_right hp
    have hu : ∀ c, unit x c = ((a c / max (Real.sqrt (∑ c, a c * a c)) e : ℝ) : EReal) := fun c => by
      rw [unit, len_real ha, he, ha c, ← coe_max', div_coe hm.ne']
    simp only [hu, len_real ha, he, ← coe_max', div_coe hm.ne', ← EReal.coe_mul, ← coe_sum]
    congr 1
    simp only [div_mul_div_comm]
    rw [Real.mul_self_sqrt (Finset.sum_nonneg fun c _ => mul_self_nonneg (a c)), Finset.sum_div]

end Cert.Proof
-- ==== Proof.Match.lean ====
module

public import proofs.«01_k».proof.Proof.Columns

/-! The correlations of two feature maps, laid out flat (32 columns a row), and the column that matches best. -/

@[expose] public section

namespace Cert.Proof

open Idealize.ShloMosaic

/-- How far the `o`-th entry of a 3 by 3 patch lies behind its first, in the flat map. -/
def off (o : Fin 9) : ℕ := o.val / 3 * 32 + o.val % 3

/-- A flat map read at any distance: zero past its end. -/
noncomputable def ext (f : Fin 1024 → EReal) (k : ℕ) : EReal := if h : k < 1024 then f ⟨k, h⟩ else 0

/-- The squared length of the patch at `p`. -/
noncomputable def patchSq (g : Fin 192 → Fin 1024 → EReal) (p : Fin 1024) : EReal :=
  ∑ o : Fin 9, ext (fun k => ∑ c, g c k * g c k) (p.val + off o)

/-- The length of the patch at `p`, plus a small constant. -/
noncomputable def patchLen (g : Fin 192 → Fin 1024 → EReal) (p : Fin 1024) : EReal := Ideal.sqrt (patchSq g p) + small

/-- The patch of `f` at `q` against the normalized patch of `g` at `p`. -/
noncomputable def corr (f g : Fin 192 → Fin 1024 → EReal) (q p : Fin 1024) : EReal :=
  ∑ o : Fin 9, ∑ c, ext (f c) (q.val + off o) * Ideal.div (ext (g c) (p.val + off o)) (patchLen g p)

/-- The flat positions at which a patch lies inside the map. -/
def Inside (p : Fin 1024) : Prop := p.val % 32 < 30 ∧ p.val / 32 < 30

instance : DecidablePred Inside := fun _ => inferInstanceAs (Decidable (_ ∧ _))

/-- The correlations with the columns outside masked. -/
noncomputable def masked (f g : Fin 192 → Fin 1024 → EReal) (q p : Fin 1024) : EReal :=
  corr f g q p + if Inside p then 0 else low

/-- `k` is the first place at which `f` is largest. -/
def IsFirstMax {n : ℕ} (f : Fin n → EReal) (k : Fin n) : Prop := (∀ j, f j ≤ f k) ∧ ∀ j, j < k → f j < f k

/-- There is one first largest place. -/
theorem IsFirstMax.unique {n : ℕ} {f : Fin n → EReal} {k l : Fin n} (hk : IsFirstMax f k) (hl : IsFirstMax f l) : k = l := by
  rcases lt_trichotomy k l with h | h | h
  · exact absurd (hk.1 l) (not_le.mpr (hl.2 k h))
  · exact h
  · exact absurd (hl.1 k) (not_le.mpr (hk.2 l h))

/-- A bounded flat map stays bounded past its end. -/
theorem ext_bdd {f : Fin 1024 → EReal} {M : ℝ} (hM : 0 ≤ M) (h : ∀ k, Bdd M (f k)) (k : ℕ) : Bdd M (ext f k) := by
  unfold ext
  split
  · exact h _
  · exact Bdd.zero hM

/-- A flat map that is nowhere negative is so past its end. -/
theorem ext_nonneg {f : Fin 1024 → EReal} {h : ∀ k, ∃ r : ℝ, f k = r ∧ 0 ≤ r} (k : ℕ) : ∃ r : ℝ, ext f k = r ∧ 0 ≤ r := by
  unfold ext
  split
  · exact h _
  · exact ⟨0, rfl, le_rfl⟩

/-- A sum of reals none of which is negative. -/
theorem sum_nonneg_real {ι : Type} [Fintype ι] {f : ι → EReal} (h : ∀ i, ∃ r : ℝ, f i = r ∧ 0 ≤ r) :
    ∃ r : ℝ, (∑ i, f i) = r ∧ 0 ≤ r := by
  choose r hr h0 using h
  exact ⟨∑ i, r i, by rw [coe_sum]; exact Finset.sum_congr rfl fun i _ => hr i, Finset.sum_nonneg fun i _ => h0 i⟩

/-- A patch's length is real and not too small. -/
theorem patchLen_real {g : Fin 192 → Fin 1024 → EReal} (hg : ∀ c p, Bdd 1 (g c p)) (p : Fin 1024) :
    ∃ r : ℝ, patchLen g p = r ∧ (2 : ℝ)⁻¹ ^ 17 ≤ r := by
  obtain ⟨S, hS, h0⟩ : ∃ r : ℝ, patchSq g p = r ∧ 0 ≤ r := by
    refine sum_nonneg_real fun o => ext_nonneg (h := fun k => sum_nonneg_real fun c => ?_) _
    obtain ⟨r, hr, -⟩ := hg c k
    exact ⟨r * r, by rw [hr, EReal.coe_mul], mul_self_nonneg r⟩
  obtain ⟨s, hs, hp⟩ := small_eq
  refine ⟨Real.sqrt S + s, ?_, by have := Real.sqrt_nonneg S; linarith⟩
  rw [patchLen, hS, hs, Ideal.sqrt_coe, if_neg (not_lt.mpr h0), EReal.coe_add]

/-- A correlation is real and bounded. -/
theorem corr_bdd {f g : Fin 192 → Fin 1024 → EReal} (hf : ∀ c p, Bdd 1 (f c p)) (hg : ∀ c p, Bdd 1 (g c p)) (q p : Fin 1024) :
    Bdd (2 ^ 28) (corr f g q p) := by
  obtain ⟨L, hL, hl⟩ := patchLen_real hg p
  have hpos : 0 < L := lt_of_lt_of_le (by positivity) hl
  have hd : ∀ k c, Bdd (2 ^ 17) (Ideal.div (ext (g c) k) (patchLen g p)) := fun k c => by
    obtain ⟨r, hr, hb⟩ := ext_bdd zero_le_one (hg c) k
    refine ⟨r / L, by rw [hr, hL, div_coe hpos.ne'], ?_⟩
    rw [abs_div, abs_of_pos hpos, div_le_iff₀ hpos]
    calc |r| ≤ 1 := hb
      _ = 2 ^ 17 * (2 : ℝ)⁻¹ ^ 17 := by norm_num
      _ ≤ 2 ^ 17 * L := by gcongr
  have h := Bdd.sum (Finset.univ : Finset (Fin 9)) fun o => Bdd.sum (Finset.univ : Finset (Fin 192)) fun c =>
    (ext_bdd zero_le_one (hf c) (q.val + off o)).mul (hd (p.val + off o) c)
  obtain ⟨r, hr, hb⟩ := h
  refine ⟨r, hr, hb.trans ?_⟩
  norm_num

/-- A column outside is below every column inside. -/
theorem masked_lt {f g : Fin 192 → Fin 1024 → EReal} (hf : ∀ c p, Bdd 1 (f c p)) (hg : ∀ c p, Bdd 1 (g c p)) (q : Fin 1024)
    {p p' : Fin 1024} (h : ¬ Inside p) (h' : Inside p') : masked f g q p < masked f g q p' := by
  obtain ⟨r, hr, hb⟩ := corr_bdd hf hg q p
  obtain ⟨r', hr', hb'⟩ := corr_bdd hf hg q p'
  obtain ⟨l, hl, hn⟩ := low_eq
  rw [masked, masked, if_neg h, if_pos h', hr, hr', hl, add_zero, ← EReal.coe_add, EReal.coe_lt_coe_iff]
  have h1 := (abs_le.mp hb).2
  have h2 := (abs_le.mp hb').1
  have : (2 : ℝ) ^ 28 + -2 ^ 127 < -2 ^ 28 := by norm_num
  linarith

/-- The flat position of the `k`-th patch. -/
def pos (k : Fin 900) : Fin 1024 := ⟨k.val / 30 * 32 + k.val % 30, by omega⟩

/-- A patch of the grid lies inside. -/
theorem pos_inside (k : Fin 900) : Inside (pos k) := by
  constructor <;> simp only [pos] <;> omega

/-- Every place inside is that of a patch of the grid. -/
theorem pos_surj {p : Fin 1024} (h : Inside p) : ∃ k, pos k = p := by
  obtain ⟨h1, h2⟩ := h
  refine ⟨⟨p.val / 32 * 30 + p.val % 32, by omega⟩, Fin.ext ?_⟩
  simp only [pos]
  omega

/-- The flat order of the patches is that of the grid. -/
theorem pos_lt {j k : Fin 900} (h : pos j < pos k) : j < k := by
  simp only [pos, Fin.lt_def] at *
  omega

/-- The best of the patches is the best of all the flat positions, masked. -/
theorem first_max {f g : Fin 192 → Fin 1024 → EReal} (hf : ∀ c p, Bdd 1 (f c p)) (hg : ∀ c p, Bdd 1 (g c p)) (q : Fin 1024)
    {k : Fin 900} (h : IsFirstMax (fun j => corr f g q (pos j)) k) : IsFirstMax (masked f g q) (pos k) := by
  have hm : ∀ j, masked f g q (pos j) = corr f g q (pos j) := fun j => by
    rw [masked, if_pos (pos_inside j), add_zero]
  constructor
  · intro p
    by_cases hp : Inside p
    · obtain ⟨j, rfl⟩ := pos_surj hp
      rw [hm, hm]
      exact h.1 j
    · exact (masked_lt hf hg q hp (pos_inside k)).le
  · intro p hlt
    by_cases hp : Inside p
    · obtain ⟨j, rfl⟩ := pos_surj hp
      rw [hm, hm]
      exact h.2 j (pos_lt hlt)
    · exact masked_lt hf hg q hp (pos_inside k)

end Cert.Proof
-- ==== Proof.Patches.lean ====
module

public import proofs.«01_k».proof.Proof.Gen.KernelIdeal.Frame
public import proofs.«01_k».proof.Proof.Match
public import Idealize.ShloMosaic.Lib.Pointwise

/-! The kernel's shifted copies, the two piles of patches built from them, and the correlations they multiply to. -/

@[expose] public section

namespace Cert.Proof

open Idealize.ShloMosaic Cert.KernelIdeal Cert.KernelIdeal.Gen

noncomputable section

/-! ## Shifted copies -/

/-- A flat map cut at its start and filled with zeros is the map read further on. -/
theorem ext_shift (f : Fin 1024 → EReal) {n s : ℕ} (p : Fin 1024) (hs : n + s = 1024) (hh : p.val < n → s + p.val < 1024) :
    (if h : p.val < n then f ⟨s + p.val, hh h⟩ else 0) = ext f (p.val + s) := by
  unfold ext
  by_cases h : p.val < n
  · rw [dif_pos h, dif_pos (by omega)]
    congr 2
    omega
  · rw [dif_neg h, dif_neg (by omega)]

/-- At distance zero the map is read where it is. -/
theorem ext_here (f : Fin 1024 → EReal) (p : Fin 1024) : ext f (p.val + 0) = f p := by
  unfold ext
  rw [dif_pos (by omega)]
  rfl

/-- Every row of `x` read as far behind as the `o`-th entry of a patch. -/
def behind (x : FVec Ideal S192x1024 .f32) (o : Fin 9) : FVec Ideal S192x1024 .f32 :=
  fun j => ext (fun k => x (ix2 (j 0) k)) ((j 1).val + off o)

/-- Moving by the first offset changes nothing. -/
theorem behind_zero (x : FVec Ideal S192x1024 .f32) : behind x 0 = x := by
  funext j
  idx_vars j
  exact ext_here _ _

/-- The kernel's eight shifted copies of a 192-row matrix. -/
theorem shifts (x : FVec Ideal S192x1024 .f32) :
  concatenate S192x1024 1 [⟨S192x1023, extractStridedSlice S192x1023 ![0, 1] x slices_S192x1024_o0_1_S192x1023⟩, ⟨S192x1, broadcast S192x1 (Scalar.ofBits .f32 0x00000000#32 : Ideal .f32)⟩] concatenates_S192x1023_S192x1_S192x1024_d1 = behind x 1
    ∧ concatenate S192x1024 1 [⟨S192x1022, extractStridedSlice S192x1022 ![0, 2] x slices_S192x1024_o0_2_S192x1022⟩, ⟨S192x2, broadcast S192x2 (Scalar.ofBits .f32 0x00000000#32 : Ideal .f32)⟩] concatenates_S192x1022_S192x2_S192x1024_d1 = behind x 2
    ∧ concatenate S192x1024 1 [⟨S192x992, extractStridedSlice S192x992 ![0, 32] x slices_S192x1024_o0_32_S192x992⟩, ⟨S192x32, broadcast S192x32 (Scalar.ofBits .f32 0x00000000#32 : Ideal .f32)⟩] concatenates_S192x992_S192x32_S192x1024_d1 = behind x 3
    ∧ concatenate S192x1024 1 [⟨S192x991, extractStridedSlice S192x991 ![0, 33] x slices_S192x1024_o0_33_S192x991⟩, ⟨S192x33, broadcast S192x33 (Scalar.ofBits .f32 0x00000000#32 : Ideal .f32)⟩] concatenates_S192x991_S192x33_S192x1024_d1 = behind x 4
    ∧ concatenate S192x1024 1 [⟨S192x990, extractStridedSlice S192x990 ![0, 34] x slices_S192x1024_o0_34_S192x990⟩, ⟨S192x34, broadcast S192x34 (Scalar.ofBits .f32 0x00000000#32 : Ideal .f32)⟩] concatenates_S192x990_S192x34_S192x1024_d1 = behind x 5
    ∧ concatenate S192x1024 1 [⟨S192x960, extractStridedSlice S192x960 ![0, 64] x slices_S192x1024_o0_64_S192x960⟩, ⟨S192x64, broadcast S192x64 (Scalar.ofBits .f32 0x00000000#32 : Ideal .f32)⟩] concatenates_S192x960_S192x64_S192x1024_d1 = behind x 6
    ∧ concatenate S192x1024 1 [⟨S192x959, extractStridedSlice S192x959 ![0, 65] x slices_S192x1024_o0_65_S192x959⟩, ⟨S192x65, broadcast S192x65 (Scalar.ofBits .f32 0x00000000#32 : Ideal .f32)⟩] concatenates_S192x959_S192x65_S192x1024_d1 = behind x 7
    ∧ concatenate S192x1024 1 [⟨S192x958, extractStridedSlice S192x958 ![0, 66] x slices_S192x1024_o0_66_S192x958⟩, ⟨S192x66, broadcast S192x66 (Scalar.ofBits .f32 0x00000000#32 : Ideal .f32)⟩] concatenates_S192x958_S192x66_S192x1024_d1 = behind x 8 := by
  refine ⟨?_, ?_, ?_, ?_, ?_, ?_, ?_, ?_⟩ <;>
  · funext j
    idx_vars j
    pointwise
    refine ext_shift (fun k => x (ix2 _ k)) _ ?_ ?_
    rfl

/-- Nine matrices of 192 rows and one further row, one below the other. -/
abbrev pile (r : Fin 9 → FVec Ideal S192x1024 .f32) (l : FVec Ideal S1x1024 .f32) : FVec Ideal S1729x1024 .f32 :=
  concatenate S1729x1024 0 [⟨S192x1024, r 0⟩, ⟨S192x1024, r 1⟩, ⟨S192x1024, r 2⟩, ⟨S192x1024, r 3⟩, ⟨S192x1024, r 4⟩,
      ⟨S192x1024, r 5⟩, ⟨S192x1024, r 6⟩, ⟨S192x1024, r 7⟩, ⟨S192x1024, r 8⟩, ⟨S1x1024, l⟩]
    concatenates_S192x1024_S192x1024_S192x1024_S192x1024_S192x1024_S192x1024_S192x1024_S192x1024_S192x1024_S1x1024_S1729x1024_d0

set_option maxRecDepth 16384 in
/-- The rows of a pile. -/
theorem pile_row (r : Fin 9 → FVec Ideal S192x1024 .f32) (l : FVec Ideal S1x1024 .f32) (o : Fin 9) (c : Fin 192) (q : Fin 1024) :
    pile r l (ix2 ⟨o.val * 192 + c.val, by omega⟩ q) = r o (ix2 c q) := by
  fin_cases o <;> pointwise [pile] <;>
  · repeat rw [dif_neg (by omega)]
    try rw [dif_pos (by omega)]
    congr 3
    omega

set_option maxRecDepth 16384 in
/-- The last row of a pile. -/
theorem pile_last (r : Fin 9 → FVec Ideal S192x1024 .f32) (l : FVec Ideal S1x1024 .f32) (q : Fin 1024) :
    pile r l (ix2 ⟨1728, by omega⟩ q) = l (ix2 0 q) := by
  pointwise [pile]

/-- A pile from its pieces, each given apart. -/
theorem pile_of (r : Fin 9 → FVec Ideal S192x1024 .f32) (l : FVec Ideal S1x1024 .f32) {r0 r1 r2 r3 r4 r5 r6 r7 r8 : FVec Ideal S192x1024 .f32}
    (h0 : r0 = r 0) (h1 : r1 = r 1) (h2 : r2 = r 2) (h3 : r3 = r 3) (h4 : r4 = r 4) (h5 : r5 = r 5) (h6 : r6 = r 6) (h7 : r7 = r 7) (h8 : r8 = r 8) :
    concatenate S1729x1024 0 [⟨S192x1024, r0⟩, ⟨S192x1024, r1⟩, ⟨S192x1024, r2⟩, ⟨S192x1024, r3⟩, ⟨S192x1024, r4⟩,
      ⟨S192x1024, r5⟩, ⟨S192x1024, r6⟩, ⟨S192x1024, r7⟩, ⟨S192x1024, r8⟩, ⟨S1x1024, l⟩]
      concatenates_S192x1024_S192x1024_S192x1024_S192x1024_S192x1024_S192x1024_S192x1024_S192x1024_S192x1024_S1x1024_S1729x1024_d0
      = pile r l := by
  subst h0 h1 h2 h3 h4 h5 h6 h7 h8
  rfl

/-- The left pile: the patches of the first map, and a row of ones. -/
theorem left_pile (x : FVec Ideal S192x1024 .f32) :
    k0_pay19 x = pile (behind x) (broadcast S1x1024 (Scalar.ofBits .f32 0x3F800000#32 : Ideal .f32)) := by
  obtain ⟨h1, h2, h3, h4, h5, h6, h7, h8⟩ := shifts x
  exact pile_of _ _ (behind_zero x).symm h1 h2 h3 h4 h5 h6 h7 h8

/-- The patches of `g`, each divided by its length `d`. -/
def scaled (g : FVec Ideal S192x1024 .f32) (d : FVec Ideal S1x1024 .f32) (o : Fin 9) : FVec Ideal S192x1024 .f32 :=
  divf (behind g o) (broadcastTo S192x1024 d broadcasts_S1x1024_S192x1024)

/-- The right pile: the normalized patches of the second map, and the row of the mask. -/
theorem right_pile (g : FVec Ideal S192x1024 .f32) (d : FVec Ideal S1x1024 .f32) (v : IVec S1x1024 1) :
    k0_pay24 g d v (k0_pay20 g d) (k0_pay21 g d) (k0_pay22 g d) (k0_pay23 g d)
      = pile (scaled g d) (select v (broadcast S1x1024 (Scalar.ofBits .f32 0x00000000#32 : Ideal .f32)) (broadcast S1x1024 (Scalar.ofBits .f32 0xFF61B1E6#32 : Ideal .f32))) := by
  obtain ⟨h1, h2, h3, h4, h5, h6, h7, h8⟩ := shifts g
  have k (o : Fin 9) {w : FVec Ideal S192x1024 .f32} (h : w = behind g o) :
      divf w (broadcastTo S192x1024 d broadcasts_S1x1024_S192x1024) = scaled g d o := by rw [h]; rfl
  exact pile_of _ _ (k 0 (behind_zero g).symm) (k 1 h1) (k 2 h2) (k 3 h3) (k 4 h4) (k 5 h5) (k 6 h6) (k 7 h7) (k 8 h8)

/-! ## The product of the two piles -/

/-- A sum over the 1729 stacked rows: nine groups of 192 and the last row. -/
theorem sum_rows (f : Fin 1729 → EReal) :
    ∑ k, f k = (∑ o : Fin 9, ∑ c : Fin 192, f ⟨o.val * 192 + c.val, by omega⟩) + f ⟨1728, by omega⟩ := by
  rw [Fin.sum_univ_castSucc (n := 1728) f]
  congr 1
  rw [← Fintype.sum_prod_type' (fun (o : Fin 9) (c : Fin 192) => f ⟨o.val * 192 + c.val, by omega⟩)]
  refine (Fintype.sum_equiv (finProdFinEquiv (m := 9) (n := 192)) _ _ fun x => ?_).symm
  congr 1
  ext
  simp [finProdFinEquiv]
  omega

/-- The product of the transposed left operand with the right one, entry by entry. -/
theorem product_apply (A : FVec Ideal S1729x1024 .f32) (B : FVec Ideal S1729x512 .f32) (q : Fin 1024) (p : Fin 512) :
    matmul dot_S1729x1024_S1729x512_S1024x512_0_0_1_1_n_n none A B (constant S1024x512 .f32 0x00000000#32) (ix2 q p)
      = ∑ k : Fin 1729, A (ix2 k q) * B (ix2 k p) := by
  pointwise

/-- The columns of a matrix as a flat map of each row. -/
abbrev rows (x : FVec Ideal S192x1024 .f32) : Fin 192 → Fin 1024 → EReal := fun c k => x (ix2 c k)

/-- One column of the two piles multiplied and summed: the masked correlation. -/
theorem piles_sum (f g : FVec Ideal S192x1024 .f32) (d : FVec Ideal S1x1024 .f32) (v : IVec S1x1024 1) (q p : Fin 1024)
    (hd : d (ix2 0 p) = patchLen (rows g) p) (hv : v (ix2 0 p) = BitVec.ofBool (decide (Inside p))) :
    ∑ k : Fin 1729, k0_pay19 f (ix2 k q) * k0_pay24 g d v (k0_pay20 g d) (k0_pay21 g d) (k0_pay22 g d) (k0_pay23 g d) (ix2 k p)
      = masked (rows f) (rows g) q p := by
  rw [left_pile, right_pile, sum_rows]
  simp only [pile_row, pile_last]
  unfold masked corr
  congr 1
  · refine Finset.sum_congr rfl fun o _ => Finset.sum_congr rfl fun c _ => ?_
    pointwise [behind, scaled, hd]
  · pointwise [hv]

/-! ## The squared lengths of the patches -/

/-- A row and its copies shifted by one and by two, added up. -/
def three (x : FVec Ideal S1x1024 .f32) : FVec Ideal S1x1024 .f32 :=
  addf (addf x (concatenate S1x1024 1 [⟨S1x1023, extractStridedSlice S1x1023 ![0, 1] x slices_S1x1024_o0_1_S1x1023⟩, ⟨S1x1, broadcast S1x1 (Scalar.ofBits .f32 0x00000000#32 : Ideal .f32)⟩] concatenates_S1x1023_S1x1_S1x1024_d1))
    (concatenate S1x1024 1 [⟨S1x1022, extractStridedSlice S1x1022 ![0, 2] x slices_S1x1024_o0_2_S1x1022⟩, ⟨S1x2, broadcast S1x2 (Scalar.ofBits .f32 0x00000000#32 : Ideal .f32)⟩] concatenates_S1x1022_S1x2_S1x1024_d1)

/-- A row and its eight shifted copies, added up. -/
theorem nine_sum (x : FVec Ideal S1x1024 .f32) (p : Fin 1024) :
    k0_pay11 x (three x) (ix2 0 p) = ∑ o : Fin 9, ext (fun k => x (ix2 0 k)) (p.val + off o) := by
  pointwise [k0_pay11, three]
  have h (n s : ℕ) (hs : n + s = 1024) := ext_shift (fun k => x (ix2 0 k)) p hs (by omega)
  have h1 := h 1023 1 rfl
  have h2 := h 1022 2 rfl
  have h3 := h 992 32 rfl
  have h4 := h 991 33 rfl
  have h5 := h 990 34 rfl
  have h6 := h 960 64 rfl
  have h7 := h 959 65 rfl
  have h8 := h 958 66 rfl
  beta_reduce at h1 h2 h3 h4 h5 h6 h7 h8
  rw [h1, h2, h3, h4, h5, h6, h7, h8, ← ext_here (fun k => x (ix2 0 k)) p, Fin.sum_univ_castSucc, Fin.sum_univ_eight]
  rfl

/-- The normalized columns of a block. -/
abbrev normed (x : Vec Ideal S1x192x1024 .f32) : Fin 192 → Fin 1024 → EReal := fun c p => unit (fun c => x (ix3 0 c p)) c

/-- The lengths of the columns. -/
theorem pay4_apply (x : Vec Ideal S1x192x1024 .f32) (p : Fin 1024) : k0_pay4 x (ix2 0 p) = len (fun c => x (ix3 0 c p)) := by
  pointwise [k0_pay4, k0_pay3]
  rfl

/-- The first map normalized. -/
theorem rows_first (x : Vec Ideal S1x192x1024 .f32) : rows (k0_pay5 x) = normed x := by
  funext c p
  show k0_pay5 x (ix2 c p) = _
  pointwise [k0_pay5, k0_pay3]
  rw [pay4_apply]
  rfl

/-- The second map normalized. -/
theorem rows_second (x : Vec Ideal S1x192x1024 .f32) : rows (k0_pay6 x) = normed x := by
  funext c p
  show k0_pay6 x (ix2 c p) = _
  pointwise [k0_pay6]
  rfl

/-- The length of the second map's patches. -/
theorem length_second (x : Vec Ideal S1x192x1024 .f32) (p : Fin 1024) :
    k0_pay13 (k0_pay11 (k0_pay8 x) (k0_pay9 x)) (ix2 0 p) = patchLen (normed x) p := by
  have h := nine_sum (k0_pay8 x) p
  have e : ∀ k, k0_pay8 x (ix2 0 k) = ∑ c, normed x c k * normed x c k := by
    intro k
    have r := rows_second x
    pointwise [k0_pay8]
    exact Finset.sum_congr rfl fun c _ => congrArg₂ (· * ·) (congrFun (congrFun r c) k) (congrFun (congrFun r c) k)
  simp only [e] at h
  pointwise [k0_pay13]
  exact congrArg (fun z => Ideal.sqrt z + small) h

/-- The squared length of the first map's patches, from the squared lengths of its columns. -/
theorem square_first (x : Vec Ideal S1x192x1024 .f32) (p : Fin 1024) :
    k0_pay12 (k0_pay7 x) (k0_pay10 x) (ix2 0 p) = patchSq (normed x) p := by
  have h := nine_sum (k0_pay7 x) p
  have e : ∀ k, k0_pay7 x (ix2 0 k) = ∑ c, normed x c k * normed x c k := by
    intro k
    pointwise [k0_pay7]
    rw [pay4_apply]
    exact unit_sq _
  simp only [e] at h
  exact h

end

end Cert.Proof
-- ==== Proof.FirstMax.lean ====
module

public import proofs.«01_k».proof.Proof.Match
public import Idealize.ShloMosaic.Lib.SortNet.Extract

/-! The first place of a maximum: that it exists, how two reductions find it, how two halves combine, and the
    displacement field and similarity it gives. -/

@[expose] public section

namespace Cert.Proof

open Idealize.ShloMosaic

/-- A nonempty family has a first maximum. -/
theorem exists_first {n : ℕ} (hn : 0 < n) (F : Fin n → EReal) : ∃ k, IsFirstMax F k := by
  classical
  obtain ⟨m, -, hm⟩ := Finset.exists_max_image Finset.univ F ⟨⟨0, hn⟩, Finset.mem_univ _⟩
  have hne : (Finset.univ.filter fun k => F k = F m).Nonempty := ⟨m, by simp⟩
  refine ⟨(Finset.univ.filter fun k => F k = F m).min' hne, ?_, ?_⟩
  · intro j
    have h := (Finset.mem_filter.mp (Finset.min'_mem _ hne)).2
    rw [h]
    exact hm j (Finset.mem_univ _)
  · intro j hj
    have h := (Finset.mem_filter.mp (Finset.min'_mem _ hne)).2
    rw [h]
    refine lt_of_le_of_ne (hm j (Finset.mem_univ _)) fun e => ?_
    exact absurd (Finset.min'_le _ j (Finset.mem_filter.mpr ⟨Finset.mem_univ _, e⟩)) (not_le.mpr hj)

/-- The fold of `max` is the value at the first maximum. -/
theorem fold_max {n : ℕ} {F : Fin n → EReal} {k : Fin n} (hk : IsFirstMax F k) :
    Finset.fold max (Ideal.ofBits .f32 0xFF800000#32) F Finset.univ = F k := by
  rw [bot_eq]
  refine le_antisymm (Finset.fold_max_le _ |>.mpr ⟨bot_le, fun j _ => hk.1 j⟩) ?_
  exact Finset.le_fold_max _ |>.mpr (.inr ⟨k, Finset.mem_univ _, le_rfl⟩)

/-- A small natural number as a signed word. -/
theorem toInt_small {n : ℕ} (h : n < 2147483648) : (BitVec.ofNat 32 n).toInt = n := by
  rw [BitVec.toInt_eq_toNat_of_lt, BitVec.toNat_ofNat, Nat.mod_eq_of_lt (by omega)]
  rw [BitVec.toNat_ofNat, Nat.mod_eq_of_lt (by omega)]
  omega

instance : Std.Commutative (IntOp.minsi (w := 32)) := ⟨fun a b => by
  apply BitVec.eq_of_toInt_eq
  rw [SortNet.toInt_minsi, SortNet.toInt_minsi, min_comm]⟩

instance : Std.Associative (IntOp.minsi (w := 32)) := ⟨fun a b c => by
  apply BitVec.eq_of_toInt_eq
  simp only [SortNet.toInt_minsi, min_assoc]⟩

/-- The least of the numbers, from `b` on, of the places holding the maximum is the first one's. -/
theorem fold_min {n : ℕ} {F : Fin n → EReal} {k : Fin n} (hk : IsFirstMax F k) (b : ℕ) (hb : n + b ≤ 1073741824) :
    Finset.fold IntOp.minsi 2147483647#32 (fun x => if F x = F k then IntOp.addi (BitVec.ofNat 32 x.val) (BitVec.ofNat 32 b) else 1073741824#32) Finset.univ
      = BitVec.ofNat 32 (k.val + b) := by
  have e (x : Fin n) : IntOp.addi (BitVec.ofNat 32 x.val) (BitVec.ofNat 32 b) = BitVec.ofNat 32 (x.val + b) := (BitVec.ofNat_add _ _).symm
  simp only [e]
  apply BitVec.eq_of_toInt_eq
  rw [← Finset.fold_hom (op' := min) (m := BitVec.toInt) (fun x y => SortNet.toInt_minsi x y), toInt_small (n := k.val + b) (by omega)]
  apply le_antisymm
  · refine Finset.fold_min_le _ |>.mpr (.inr ⟨k, Finset.mem_univ _, ?_⟩)
    rw [if_pos rfl, toInt_small (n := k.val + b) (by omega)]
  · refine Finset.le_fold_min _ |>.mpr ⟨?_, fun j _ => ?_⟩
    · have : (2147483647#32).toInt = 2147483647 := by decide
      omega
    · split
      · rename_i h
        have hj : k ≤ j := not_lt.mp fun hj => absurd h (hk.2 j hj).ne
        rw [toInt_small (n := j.val + b) (by omega)]
        have := Fin.le_def.mp hj
        omega
      · have : (1073741824#32).toInt = 1073741824 := by decide
        omega

/-- The first maxima of two halves give the first maximum of the whole: the first half's if it is at least the
    second's, else the second's. -/
theorem halves {F : Fin 1024 → EReal} {k l : Fin 512}
    (hk : IsFirstMax (fun j : Fin 512 => F ⟨j.val, by omega⟩) k) (hl : IsFirstMax (fun j : Fin 512 => F ⟨512 + j.val, by omega⟩) l) :
    IsFirstMax F (if F ⟨512 + l.val, by omega⟩ ≤ F ⟨k.val, by omega⟩ then ⟨k.val, by omega⟩ else ⟨512 + l.val, by omega⟩) := by
  have lo (j : Fin 1024) (h : j.val < 512) : F j ≤ F ⟨k.val, by omega⟩ := hk.1 ⟨j.val, h⟩
  have hi (j : Fin 1024) (h : 512 ≤ j.val) : F j ≤ F ⟨512 + l.val, by omega⟩ := by
    have := hl.1 ⟨j.val - 512, by omega⟩
    have e : (⟨512 + (j.val - 512), by omega⟩ : Fin 1024) = j := Fin.ext (by simp; omega)
    simpa [e] using this
  split
  · rename_i h
    refine ⟨fun j => ?_, fun j hj => ?_⟩
    · by_cases hj : j.val < 512
      · exact lo j hj
      · exact (hi j (by omega)).trans h
    · have hj' : j.val < k.val := hj
      exact hk.2 ⟨j.val, by omega⟩ hj'
  · rename_i h
    rw [not_le] at h
    refine ⟨fun j => ?_, fun j hj => ?_⟩
    · by_cases hj : j.val < 512
      · exact (lo j hj).trans h.le
      · exact hi j (by omega)
    · by_cases hj' : j.val < 512
      · exact (lo j hj').trans_lt h
      · have hj'' : j.val < 512 + l.val := hj
        have := hl.2 ⟨j.val - 512, by omega⟩ (by rw [Fin.lt_def]; show j.val - 512 < l.val; omega)
        have e : (⟨512 + (j.val - 512), by omega⟩ : Fin 1024) = j := Fin.ext (by simp; omega)
        simpa [e] using this

noncomputable section

/-- The column of `g` that matches the one of `f` at `q` best. -/
def best (f g : Fin 192 → Fin 1024 → EReal) (q : Fin 1024) : Fin 1024 := (exists_first (by omega) (masked f g q)).choose

/-- It is where the masked correlations are largest for the first time. -/
theorem best_spec (f g : Fin 192 → Fin 1024 → EReal) (q : Fin 1024) : IsFirstMax (masked f g q) (best f g q) :=
  (exists_first (by omega) (masked f g q)).choose_spec

/-- A small natural number as a float. -/
abbrev num (n : ℕ) : EReal := FloatOps.sitofp (F := Ideal) .f32 (BitVec.ofNat 32 n)

/-- The horizontal (`d = 0`) or vertical coordinate of a flat position. -/
def coord (d : Fin 2) (n : ℕ) : ℕ := if d = 0 then n % 32 else n / 32

/-- The displacement from `p` to its match; zero where no patch fits. -/
def flow (f g : Fin 192 → Fin 1024 → EReal) (d : Fin 2) (p : Fin 1024) : EReal :=
  if Inside p then num (coord d (best f g p)) - num (coord d p) else 0

/-- The similarity at `p`; zero where no patch fits. -/
def similarity (f g : Fin 192 → Fin 1024 → EReal) (p : Fin 1024) : EReal :=
  if Inside p then Ideal.div (masked f g p (best f g p)) (patchLen f p) else 0

/-- A flat map moved on by `s` places, zeros coming in. -/
def ahead (f : Fin 1024 → EReal) (s : ℕ) (p : Fin 1024) : EReal := if p.val < s then 0 else f ⟨p.val - s, by omega⟩

end

end Cert.Proof
-- ==== Proof.Matches.lean ====
module

public import proofs.«01_k».proof.Proof.Patches
public import proofs.«01_k».proof.Proof.FirstMax

/-! The kernel's best match of every column, and the displacement and similarity rows computed from it. -/

@[expose] public section

namespace Cert.Proof

open Idealize.ShloMosaic Cert.KernelIdeal Cert.KernelIdeal.Gen

noncomputable section

/-- The bit that says whether a patch fits. -/
theorem fits_apply (x0 x1 : Vec Ideal S1x192x1024 .f32) (p : Fin 1024) : k0_pay60 x0 x1 (ix2 0 p) = BitVec.ofBool (decide (Inside p)) := by
  pointwise [k0_pay60, k0_pay18, k0_pay14, k0_pay15, k0_pay16, k0_pay17]
  revert p
  decide +kernel

/-- A block loaded whole. -/
theorem ld_whole (x : Vec Ideal S1x192x1024 .f32) : View.ld x r0_0 = x :=
  View.ld_unit_zero (by funext a; fin_cases a <;> rfl) _ _

/-- The two piles' product at `(q, p)`, the block's columns normalized. -/
theorem product_column (x0 x1 : Vec Ideal S1x192x1024 .f32) (q p : Fin 1024) :
    ∑ k : Fin 1729, k0_pay61 x0 x1 (ix2 k q) * k0_pay24 (k0_pay57 x0 x1) (k0_pay59 x0 x1) (k0_pay60 x0 x1) (k0_pay62 x0 x1) (k0_pay63 x0 x1) (k0_pay64 x0 x1) (k0_pay65 x0 x1) (ix2 k p)
      = masked (normed x0) (normed x1) q p := by
  have h := piles_sum (k0_pay5 (View.ld x0 r0_0)) (k0_pay57 x0 x1) (k0_pay59 x0 x1) (k0_pay60 x0 x1) q p
    (by unfold k0_pay57 k0_pay59; rw [ld_whole, rows_second]; exact length_second x1 p) (fits_apply x0 x1 p)
  refine h.trans ?_
  unfold k0_pay57
  rw [ld_whole, ld_whole, rows_first, rows_second]

/-- The first half of the correlations. -/
theorem first_half (x0 x1 : Vec Ideal S1x192x1024 .f32) (q : Fin 1024) (j : Fin 512) :
    k0_pay25 (k0_pay57 x0 x1) (k0_pay59 x0 x1) (k0_pay60 x0 x1) (k0_pay61 x0 x1) (k0_pay62 x0 x1) (k0_pay63 x0 x1) (k0_pay64 x0 x1) (k0_pay65 x0 x1) (ix2 q j)
      = masked (normed x0) (normed x1) q ⟨j.val, by omega⟩ := by
  refine (product_apply _ _ q j).trans ((Finset.sum_congr rfl fun k _ => ?_).trans (product_column x0 x1 q ⟨j.val, by omega⟩))
  pointwise

/-- The second half of the correlations. -/
theorem second_half (x0 x1 : Vec Ideal S1x192x1024 .f32) (q : Fin 1024) (j : Fin 512) :
    k0_pay68 x0 x1 (ix2 q j) = masked (normed x0) (normed x1) q ⟨512 + j.val, by omega⟩ := by
  refine (product_apply _ _ q j).trans ((Finset.sum_congr rfl fun k _ => ?_).trans (product_column x0 x1 q ⟨512 + j.val, by omega⟩))
  pointwise

/-- The kernel's maximum and its place are those of the best match. -/
theorem match_apply (x0 x1 : Vec Ideal S1x192x1024 .f32) (q : Fin 1024) :
    k0_pay70 x0 x1 (ix2 q 0) = masked (normed x0) (normed x1) q (best (normed x0) (normed x1) q)
    ∧ k0_pay71 x0 x1 (ix2 q 0) = BitVec.ofNat 32 (best (normed x0) (normed x1) q).val := by
  obtain ⟨k, hk⟩ := exists_first (by omega) (fun j : Fin 512 => masked (normed x0) (normed x1) q ⟨j.val, by omega⟩)
  obtain ⟨l, hl⟩ := exists_first (by omega) (fun j : Fin 512 => masked (normed x0) (normed x1) q ⟨512 + j.val, by omega⟩)
  have hb := IsFirstMax.unique (halves hk hl) (best_spec (normed x0) (normed x1) q)
  have m0 : k0_pay66 x0 x1 (ix2 q 0) = masked (normed x0) (normed x1) q ⟨k.val, by omega⟩ := by
    unfold k0_pay66
    pointwise [k0_pay26]
    simp only [first_half]
    exact fold_max hk
  have m1 : k0_pay69 x0 x1 (ix2 q 0) = masked (normed x0) (normed x1) q ⟨512 + l.val, by omega⟩ := by
    have e := second_half x0 x1 q
    unfold k0_pay68 at e
    unfold k0_pay69
    pointwise [k0_pay29]
    simp only [e]
    exact fold_max hl
  have i0 : k0_pay67 x0 x1 (ix2 q 0) = BitVec.ofNat 32 k.val := by
    unfold k0_pay66 at m0
    unfold k0_pay67
    pointwise [k0_pay27]
    simp only [first_half, m0]
    exact fold_min hk 0 (by omega)
  unfold k0_pay70 k0_pay71
  pointwise [k0_pay31, k0_pay32, k0_pay30]
  rw [← hb]
  simp only [m0, m1, i0, second_half]
  split
  · exact ⟨rfl, rfl⟩
  · refine ⟨rfl, (fold_min hl 512 (by omega)).trans ?_⟩
    rw [Nat.add_comm]

/-- Division by 32 on the words of the flat positions. -/
theorem row_word : ∀ k : Fin 1024, Scalar.select
    (IntOp.andi (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 32#32 0#32)) (Scalar.extui (Scalar.cmpi CmpIPredicate.slt 32#32 0#32))))
      (IntOp.cmpi CmpIPredicate.ne (IntOp.remsi ArithUnit.vector (BitVec.ofNat 32 k.val) 32#32) 0#32))
    (IntOp.subi (IntOp.divsi ArithUnit.vector (BitVec.ofNat 32 k.val) 32#32) 1#32)
    (IntOp.divsi ArithUnit.vector (BitVec.ofNat 32 k.val) 32#32) = BitVec.ofNat 32 (k.val / 32) := by
  decide +kernel

/-- The remainder by 32 on the words of the flat positions. -/
theorem column_word : ∀ k : Fin 1024, Scalar.select
    (IntOp.andi (IntOp.xori
        (IntOp.cmpi CmpIPredicate.slt (IntOp.remsi ArithUnit.vector (BitVec.ofNat 32 k.val) (Scalar.select (Scalar.cmpi CmpIPredicate.eq 32#32 0#32) 1#32 32#32)) 0#32)
        (Scalar.cmpi CmpIPredicate.slt (Scalar.select (Scalar.cmpi CmpIPredicate.eq 32#32 0#32) 1#32 32#32) 0#32))
      (IntOp.cmpi CmpIPredicate.ne (IntOp.remsi ArithUnit.vector (BitVec.ofNat 32 k.val) (Scalar.select (Scalar.cmpi CmpIPredicate.eq 32#32 0#32) 1#32 32#32)) 0#32))
    (IntOp.addi (IntOp.remsi ArithUnit.vector (BitVec.ofNat 32 k.val) (Scalar.select (Scalar.cmpi CmpIPredicate.eq 32#32 0#32) 1#32 32#32))
      (Scalar.select (Scalar.cmpi CmpIPredicate.eq 32#32 0#32) 1#32 32#32))
    (IntOp.remsi ArithUnit.vector (BitVec.ofNat 32 k.val) (Scalar.select (Scalar.cmpi CmpIPredicate.eq 32#32 0#32) 1#32 32#32))
      = BitVec.ofNat 32 (k.val % 32) := by
  decide +kernel

/-- The matched columns, as a row. -/
theorem column_row (x0 x1 : Vec Ideal S1x192x1024 .f32) (q : Fin 1024) :
    k0_pay76 x0 x1 (ix2 0 q) = num (coord 0 (best (normed x0) (normed x1) q).val) := by
  have h := (match_apply x0 x1 q).2
  unfold k0_pay71 at h
  pointwise [k0_pay76, k0_pay38, k0_pay37, k0_pay72, k0_pay33]
  rw [h, column_word]
  rfl

/-- The matched rows, as a row. -/
theorem row_row (x0 x1 : Vec Ideal S1x192x1024 .f32) (q : Fin 1024) :
    k0_pay77 x0 x1 (ix2 0 q) = num (coord 1 (best (normed x0) (normed x1) q).val) := by
  have h := (match_apply x0 x1 q).2
  have h' := h
  unfold k0_pay71 at h'
  pointwise [k0_pay77, k0_pay39, k0_pay37, k0_pay73, k0_pay74, k0_pay75, k0_pay34, k0_pay35, k0_pay36]
  rw [h, h', row_word]
  rfl

/-- The maxima, as a row. -/
theorem max_row (x0 x1 : Vec Ideal S1x192x1024 .f32) (q : Fin 1024) :
    k0_pay40 (k0_pay70 x0 x1) (k0_pay71 x0 x1) (k0_pay72 x0 x1) (k0_pay73 x0 x1) (k0_pay74 x0 x1) (k0_pay75 x0 x1) (ix2 0 q)
      = masked (normed x0) (normed x1) q (best (normed x0) (normed x1) q) := by
  pointwise [k0_pay40, k0_pay37]
  exact (match_apply x0 x1 q).1

/-- The bit of a proposition selects as the proposition does. -/
theorem select_fits (p : Fin 1024) (a b : EReal) : Scalar.select (BitVec.ofBool (decide (Inside p))) a b = if Inside p then a else b := by
  by_cases h : Inside p <;> simp [h, Scalar.select]

/-- The horizontal displacements. -/
theorem flow_x (x0 x1 : Vec Ideal S1x192x1024 .f32) (p : Fin 1024) :
    k0_pay45 (k0_pay60 x0 x1) (k0_pay76 x0 x1) (k0_pay78 x0 x1) (ix2 0 p) = flow (normed x0) (normed x1) 0 p := by
  pointwise [k0_pay45, k0_pay78, k0_pay41, k0_pay58]
  rw [column_row, fits_apply, column_word, select_fits]
  rfl

/-- The vertical displacements. -/
theorem flow_y (x0 x1 : Vec Ideal S1x192x1024 .f32) (p : Fin 1024) :
    k0_pay46 (k0_pay58 x0 x1) (k0_pay60 x0 x1) (k0_pay77 x0 x1) (k0_pay79 x0 x1) (k0_pay80 x0 x1) (k0_pay81 x0 x1) (ix2 0 p)
      = flow (normed x0) (normed x1) 1 p := by
  pointwise [k0_pay46, k0_pay79, k0_pay80, k0_pay81, k0_pay42, k0_pay43, k0_pay44, k0_pay58]
  rw [row_row, fits_apply, row_word, select_fits]
  rfl

/-- The similarities. -/
theorem similarity_row (x0 x1 : Vec Ideal S1x192x1024 .f32) (p : Fin 1024) :
    k0_pay47 (k0_pay12 (k0_pay7 (View.ld x0 r0_0)) (k0_pay10 (View.ld x0 r0_0))) (k0_pay60 x0 x1)
      (k0_pay40 (k0_pay70 x0 x1) (k0_pay71 x0 x1) (k0_pay72 x0 x1) (k0_pay73 x0 x1) (k0_pay74 x0 x1) (k0_pay75 x0 x1)) (ix2 0 p)
      = similarity (normed x0) (normed x1) p := by
  rw [ld_whole]
  pointwise [k0_pay47]
  rw [max_row, fits_apply, square_first, select_fits]
  rfl

end

end Cert.Proof
-- ==== Proof.Blocks.lean ====
module

public import proofs.«01_k».proof.Proof.Matches

/-! The two result blocks of the kernel's body, entry by entry. -/

@[expose] public section

namespace Cert.Proof

open Idealize.ShloMosaic Cert.KernelIdeal Cert.KernelIdeal.Gen

noncomputable section

/-- A row moved on as far as the `o`-th entry of a patch lies behind its first. -/
def moved (x : FVec Ideal S1x1024 .f32) (o : Fin 9) : FVec Ideal S1x1024 .f32 := fun j => ahead (fun k => x (ix2 0 k)) (off o) (j 1)

/-- Moving by the first offset changes nothing. -/
theorem moved_zero (x : FVec Ideal S1x1024 .f32) : moved x 0 = x := by
  funext j
  idx_vars j
  obtain rfl : j0 = 0 := Subsingleton.elim _ _
  unfold moved ahead
  rw [if_neg (by simp [off])]
  rfl

/-- The kernel's eight moved copies of a row. -/
theorem moves (x : FVec Ideal S1x1024 .f32) :
  concatenate S1x1024 1 [⟨S1x1, broadcast S1x1 (Scalar.ofBits .f32 0x00000000#32 : Ideal .f32)⟩, ⟨S1x1023, extractStridedSlice S1x1023 ![0, 0] x slices_S1x1024_o0_0_S1x1023⟩] concatenates_S1x1_S1x1023_S1x1024_d1 = moved x 1
    ∧ concatenate S1x1024 1 [⟨S1x2, broadcast S1x2 (Scalar.ofBits .f32 0x00000000#32 : Ideal .f32)⟩, ⟨S1x1022, extractStridedSlice S1x1022 ![0, 0] x slices_S1x1024_o0_0_S1x1022⟩] concatenates_S1x2_S1x1022_S1x1024_d1 = moved x 2
    ∧ concatenate S1x1024 1 [⟨S1x32, broadcast S1x32 (Scalar.ofBits .f32 0x00000000#32 : Ideal .f32)⟩, ⟨S1x992, extractStridedSlice S1x992 ![0, 0] x slices_S1x1024_o0_0_S1x992⟩] concatenates_S1x32_S1x992_S1x1024_d1 = moved x 3
    ∧ concatenate S1x1024 1 [⟨S1x33, broadcast S1x33 (Scalar.ofBits .f32 0x00000000#32 : Ideal .f32)⟩, ⟨S1x991, extractStridedSlice S1x991 ![0, 0] x slices_S1x1024_o0_0_S1x991⟩] concatenates_S1x33_S1x991_S1x1024_d1 = moved x 4
    ∧ concatenate S1x1024 1 [⟨S1x34, broadcast S1x34 (Scalar.ofBits .f32 0x00000000#32 : Ideal .f32)⟩, ⟨S1x990, extractStridedSlice S1x990 ![0, 0] x slices_S1x1024_o0_0_S1x990⟩] concatenates_S1x34_S1x990_S1x1024_d1 = moved x 5
    ∧ concatenate S1x1024 1 [⟨S1x64, broadcast S1x64 (Scalar.ofBits .f32 0x00000000#32 : Ideal .f32)⟩, ⟨S1x960, extractStridedSlice S1x960 ![0, 0] x slices_S1x1024_o0_0_S1x960⟩] concatenates_S1x64_S1x960_S1x1024_d1 = moved x 6
    ∧ concatenate S1x1024 1 [⟨S1x65, broadcast S1x65 (Scalar.ofBits .f32 0x00000000#32 : Ideal .f32)⟩, ⟨S1x959, extractStridedSlice S1x959 ![0, 0] x slices_S1x1024_o0_0_S1x959⟩] concatenates_S1x65_S1x959_S1x1024_d1 = moved x 7
    ∧ concatenate S1x1024 1 [⟨S1x66, broadcast S1x66 (Scalar.ofBits .f32 0x00000000#32 : Ideal .f32)⟩, ⟨S1x958, extractStridedSlice S1x958 ![0, 0] x slices_S1x1024_o0_0_S1x958⟩] concatenates_S1x66_S1x958_S1x1024_d1 = moved x 8 := by
  refine ⟨?_, ?_, ?_, ?_, ?_, ?_, ?_, ?_⟩ <;>
  · funext j
    idx_vars j
    pointwise [moved]
    rfl

/-- Eighteen rows, one below the other. -/
abbrev stack (r : Fin 18 → FVec Ideal S1x1024 .f32) : FVec Ideal S18x1024 .f32 :=
  concatenate S18x1024 0 [⟨S1x1024, r 0⟩, ⟨S1x1024, r 1⟩, ⟨S1x1024, r 2⟩, ⟨S1x1024, r 3⟩, ⟨S1x1024, r 4⟩, ⟨S1x1024, r 5⟩, ⟨S1x1024, r 6⟩, ⟨S1x1024, r 7⟩, ⟨S1x1024, r 8⟩, ⟨S1x1024, r 9⟩, ⟨S1x1024, r 10⟩, ⟨S1x1024, r 11⟩, ⟨S1x1024, r 12⟩, ⟨S1x1024, r 13⟩, ⟨S1x1024, r 14⟩, ⟨S1x1024, r 15⟩, ⟨S1x1024, r 16⟩, ⟨S1x1024, r 17⟩]
    concatenates_S1x1024_S1x1024_S1x1024_S1x1024_S1x1024_S1x1024_S1x1024_S1x1024_S1x1024_S1x1024_S1x1024_S1x1024_S1x1024_S1x1024_S1x1024_S1x1024_S1x1024_S1x1024_S18x1024_d0

set_option maxRecDepth 16384 in
/-- The rows of such a stack. -/
theorem stack_row (r : Fin 18 → FVec Ideal S1x1024 .f32) (j : Fin 18) (p : Fin 1024) : stack r (ix2 j p) = r j (ix2 0 p) := by
  fin_cases j <;> pointwise [stack]

/-- A stack from its rows, each given apart. -/
theorem stack_of (r : Fin 18 → FVec Ideal S1x1024 .f32) {r0 r1 r2 r3 r4 r5 r6 r7 r8 r9 r10 r11 r12 r13 r14 r15 r16 r17 : FVec Ideal S1x1024 .f32}
    (h0 : r0 = r 0) (h1 : r1 = r 1) (h2 : r2 = r 2) (h3 : r3 = r 3) (h4 : r4 = r 4) (h5 : r5 = r 5) (h6 : r6 = r 6) (h7 : r7 = r 7) (h8 : r8 = r 8) (h9 : r9 = r 9) (h10 : r10 = r 10) (h11 : r11 = r 11) (h12 : r12 = r 12) (h13 : r13 = r 13) (h14 : r14 = r 14) (h15 : r15 = r 15) (h16 : r16 = r 16) (h17 : r17 = r 17) :
    concatenate S18x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩, ⟨S1x1024, r8⟩, ⟨S1x1024, r9⟩, ⟨S1x1024, r10⟩, ⟨S1x1024, r11⟩, ⟨S1x1024, r12⟩, ⟨S1x1024, r13⟩, ⟨S1x1024, r14⟩, ⟨S1x1024, r15⟩, ⟨S1x1024, r16⟩, ⟨S1x1024, r17⟩]
      concatenates_S1x1024_S1x1024_S1x1024_S1x1024_S1x1024_S1x1024_S1x1024_S1x1024_S1x1024_S1x1024_S1x1024_S1x1024_S1x1024_S1x1024_S1x1024_S1x1024_S1x1024_S1x1024_S18x1024_d0 = stack r := by
  subst h0 h1 h2 h3 h4 h5 h6 h7 h8 h9 h10 h11 h12 h13 h14 h15 h16 h17
  rfl

/-- The eighteen rows as a block. -/
theorem shapeCast_read (v : FVec Ideal S18x1024 .f32) (j : Fin 18) (p : Fin 1024) :
    shapeCast S1x18x1024 v shapeCasts_S18x1024_S1x18x1024 (ix3 0 j p) = v (ix2 j p) := by
  pointwise

/-- The pairs of rows of the first result block: at row `2 o + d` the row of direction `d`, moved on by the `o`-th offset. -/
theorem pairs_block (a b : FVec Ideal S1x1024 .f32) {r2 r3 r4 r5 r6 r7 r8 r9 r10 r11 r12 r13 r14 r15 r16 r17 : FVec Ideal S1x1024 .f32}
    (h2 : r2 = moved a 1) (h3 : r3 = moved b 1) (h4 : r4 = moved a 2) (h5 : r5 = moved b 2) (h6 : r6 = moved a 3) (h7 : r7 = moved b 3) (h8 : r8 = moved a 4) (h9 : r9 = moved b 4) (h10 : r10 = moved a 5) (h11 : r11 = moved b 5) (h12 : r12 = moved a 6) (h13 : r13 = moved b 6) (h14 : r14 = moved a 7) (h15 : r15 = moved b 7) (h16 : r16 = moved a 8) (h17 : r17 = moved b 8) (o : Fin 9) (d : Fin 2) (p : Fin 1024) :
    shapeCast S1x18x1024 (concatenate S18x1024 0 [⟨S1x1024, a⟩, ⟨S1x1024, b⟩, ⟨S1x1024, r2⟩, ⟨S1x1024, r3⟩, ⟨S1x1024, r4⟩, ⟨S1x1024, r5⟩, ⟨S1x1024, r6⟩, ⟨S1x1024, r7⟩, ⟨S1x1024, r8⟩, ⟨S1x1024, r9⟩, ⟨S1x1024, r10⟩, ⟨S1x1024, r11⟩, ⟨S1x1024, r12⟩, ⟨S1x1024, r13⟩, ⟨S1x1024, r14⟩, ⟨S1x1024, r15⟩, ⟨S1x1024, r16⟩, ⟨S1x1024, r17⟩]
      concatenates_S1x1024_S1x1024_S1x1024_S1x1024_S1x1024_S1x1024_S1x1024_S1x1024_S1x1024_S1x1024_S1x1024_S1x1024_S1x1024_S1x1024_S1x1024_S1x1024_S1x1024_S1x1024_S18x1024_d0) shapeCasts_S18x1024_S1x18x1024 (ix3 0 ⟨2 * o.val + d.val, by omega⟩ p)
      = ahead (fun k => (if d = 0 then a else b) (ix2 0 k)) (off o) p := by
  have e := stack_of ![moved a 0, moved b 0, moved a 1, moved b 1, moved a 2, moved b 2, moved a 3, moved b 3, moved a 4, moved b 4, moved a 5, moved b 5, moved a 6, moved b 6, moved a 7, moved b 7, moved a 8, moved b 8] (moved_zero a).symm (moved_zero b).symm
    h2 h3 h4 h5 h6 h7 h8 h9 h10 h11 h12 h13 h14 h15 h16 h17
  refine (shapeCast_read _ ⟨2 * o.val + d.val, by omega⟩ p).trans (((congrFun e _).trans (stack_row _ _ p)).trans ?_)
  fin_cases o <;> fin_cases d <;> rfl

/-- The first result block: at row `2 o + d` the displacements in direction `d`, moved on by the `o`-th offset. -/
theorem flow_block (x0 x1 : Vec Ideal S1x192x1024 .f32) (o : Fin 9) (d : Fin 2) (p : Fin 1024) :
    out0_2 x0 x1 (ix3 0 ⟨2 * o.val + d.val, by omega⟩ p) = ahead (flow (normed x0) (normed x1) d) (off o) p := by
  have hx := flow_x x0 x1
  have hy := flow_y x0 x1
  unfold out0_2
  rw [View.canon_unit_zero (by funext a; fin_cases a <;> rfl)]
  unfold k0_pay1 k0_pay48 k0_pay49 k0_pay50 k0_pay51 k0_pay52 k0_pay53 k0_pay54 k0_pay55 k0_pay56
  generalize k0_pay45 (k0_pay60 x0 x1) (k0_pay76 x0 x1) (k0_pay78 x0 x1) = a at hx ⊢
  generalize k0_pay46 (k0_pay58 x0 x1) (k0_pay60 x0 x1) (k0_pay77 x0 x1) (k0_pay79 x0 x1) (k0_pay80 x0 x1) (k0_pay81 x0 x1) = b at hy ⊢
  obtain ⟨a1, a2, a3, a4, a5, a6, a7, a8⟩ := moves a
  obtain ⟨b1, b2, b3, b4, b5, b6, b7, b8⟩ := moves b
  refine (pairs_block a b a1 b1 a2 b2 a3 b3 a4 b4 a5 b5 a6 b6 a7 b7 a8 b8 o d p).trans ?_
  congr 1
  funext k
  fin_cases d
  · exact hx k
  · exact hy k

/-- The second result block: the similarities, moved on by one row and one column. -/
theorem similarity_block (x0 x1 : Vec Ideal S1x192x1024 .f32) (p : Fin 1024) :
    out0_3 x0 x1 (ix3 0 0 p) = ahead (similarity (normed x0) (normed x1)) 33 p := by
  have h := funext (similarity_row x0 x1)
  unfold out0_3
  rw [View.canon_unit_zero (by funext a; fin_cases a <;> rfl)]
  pointwise [k0_pay2]
  exact congrFun (congrArg (fun F => ahead F 33) h) p

end

end Cert.Proof
-- ==== Proof.Plane.lean ====
module

public import proofs.«01_k».proof.Proof.FirstMax
public import Idealize.ShloMosaic.Lib.Pointwise

/-! The three results as functions of the two maps, with both programs' tiling and tricks left out. -/

@[expose] public section

namespace Cert.Proof

open Idealize.ShloMosaic

noncomputable section

/-- Two maps of 192 channels and 32 rows of 32 columns. -/
abbrev Maps := (⟨4, ![2, 192, 32, 32]⟩ : Shape).Idx → EReal

/-- The normalized columns of one map, laid out flat. -/
def plane (x : Maps) (b : Fin 2) : Fin 192 → Fin 1024 → EReal :=
  fun c p => unit (fun c => x (ix4 b c ⟨p.val / 32, by omega⟩ ⟨p.val % 32, by omega⟩)) c

/-- A place of the map in the flat map. -/
def place (y z : Fin 32) : Fin 1024 := ⟨y.val * 32 + z.val, by omega⟩

/-- The displacement of every place's best match. -/
def displacement (x y : Maps) : (⟨4, ![2, 32, 32, 2]⟩ : Shape).Idx → EReal :=
  fun j => flow (plane x (j 0)) (plane y (j 0)) (j 3) (place (j 1) (j 2))

/-- The displacements moved down and right by each of the nine offsets of a patch's entries. -/
def displacements (x y : Maps) : (⟨5, ![2, 9, 32, 32, 2]⟩ : Shape).Idx → EReal :=
  fun j => ahead (flow (plane x (j 0)) (plane y (j 0)) (j 4)) (off (j 1)) (place (j 2) (j 3))

/-- The similarity of every place's best match, moved to the middle of the patch. -/
def similarities (x y : Maps) : (⟨4, ![2, 1, 32, 32]⟩ : Shape).Idx → EReal :=
  fun j => ahead (similarity (plane x (j 0)) (plane y (j 0))) 33 (place (j 2) (j 3))

end

end Cert.Proof
-- ==== Proof.Arrays.lean ====
module

public import proofs.«01_k».proof.Proof.Blocks
public import proofs.«01_k».proof.Proof.Plane
public import Idealize.ShloMosaic.Lib.Pipeline.ValueKit

/-! What the kernel's two result arrays hold after its run, and what the program's last lines make of them. -/

@[expose] public section

namespace Cert.Proof

open Idealize.ShloMosaic Cert.KernelIdeal Cert.KernelIdeal.Gen

noncomputable section

/-- The first result array: row `2 * o + d` holds coordinate `d` of the displacements moved by offset `o`. -/
def flowArray (x y : Maps) : Vec Ideal S2x18x1024 .f32 := fun j =>
  ahead (flow (plane x (j 0)) (plane y (j 0)) ⟨(j 1).val % 2, by omega⟩)
    (off ⟨(j 1).val / 2, by have : (j 1).val < 18 := (j 1).isLt; omega⟩) (j 2)

/-- The second result array. -/
def similarityArray (x y : Maps) : Vec Ideal S2x1x1024 .f32 := fun j =>
  ahead (similarity (plane x (j 0)) (plane y (j 0))) 33 (j 2)

variable (m : (ℓ : Loc nD τ sig) → Buf (Elt Ideal) ℓ) (c : Dev nD)

/-- The first map as launched. -/
abbrev arg0 : Maps := m ((c.tc : Thread nD τ).loc main_arg0)

/-- The second map as launched. -/
abbrev arg1 : Maps := m ((c.tc : Thread nD τ).loc main_arg1)

set_option maxRecDepth 16384

/-- The first operand's flat layout. -/
theorem before0 : V m c main_v0 = shapeCast S2x192x1024 (arg0 m c) shapeCasts_S2x192x32x32_S2x192x1024 := by
  show StableHlo.after (List.flatten [hostOps0]) _ _ = _
  simp only [hostOps0, List.flatten_cons, List.flatten_nil, List.append_nil]
  after_results
  rfl

/-- The second operand's flat layout. -/
theorem before1 : V m c main_v1 = shapeCast S2x192x1024 (arg1 m c) shapeCasts_S2x192x32x32_S2x192x1024 := by
  show StableHlo.after (List.flatten [hostOps0]) _ _ = _
  simp only [hostOps0, List.flatten_cons, List.flatten_nil, List.append_nil]
  after_results
  rfl

/-- Block `t` of the first operand is map `t`. -/
theorem block0 (t : Fin 2) (k : Fin 192) (p : Fin 1024) : ((cfg0.win 0).blk t).view.emb (ix3 0 k p) = ix3 t k p := by
  funext a
  apply Fin.ext
  match a with
  | ⟨0, _⟩ => fin_cases t <;> rfl
  | ⟨1, _⟩ => fin_cases t <;> exact show 0 + 1 * k.val = k.val by omega
  | ⟨2, _⟩ => fin_cases t <;> exact show 0 + 1 * p.val = p.val by omega

/-- Block `t` of the second operand is map `t`. -/
theorem block1 (t : Fin 2) (k : Fin 192) (p : Fin 1024) : ((cfg0.win 1).blk t).view.emb (ix3 0 k p) = ix3 t k p := by
  funext a
  apply Fin.ext
  match a with
  | ⟨0, _⟩ => fin_cases t <;> rfl
  | ⟨1, _⟩ => fin_cases t <;> exact show 0 + 1 * k.val = k.val by omega
  | ⟨2, _⟩ => fin_cases t <;> exact show 0 + 1 * p.val = p.val by omega

/-- Block `t` of the first result is its map `t`. -/
theorem block2 (t : Fin 2) (r : Fin 18) (p : Fin 1024) : ((cfg0.win 2).blk t).view.emb (ix3 0 r p) = ix3 t r p := by
  funext a
  apply Fin.ext
  match a with
  | ⟨0, _⟩ => fin_cases t <;> rfl
  | ⟨1, _⟩ => fin_cases t <;> exact show 0 + 1 * r.val = r.val by omega
  | ⟨2, _⟩ => fin_cases t <;> exact show 0 + 1 * p.val = p.val by omega

/-- Block `t` of the second result is its map `t`. -/
theorem block3 (t : Fin 2) (p : Fin 1024) : ((cfg0.win 3).blk t).view.emb (ix3 0 0 p) = ix3 t 0 p := by
  funext a
  apply Fin.ext
  match a with
  | ⟨0, _⟩ => fin_cases t <;> rfl
  | ⟨1, _⟩ => fin_cases t <;> rfl
  | ⟨2, _⟩ => fin_cases t <;> exact show 0 + 1 * p.val = p.val by omega

/-- The body's normalization of its first block is that of map `t`. -/
theorem normed0 (t : Fin 2) : normed (iblk m c 0 t) = plane (arg0 m c) t := by
  funext k p
  unfold normed plane
  congr 1
  funext k
  unfold iblk
  refine (congrArg (V m c main_v0) (block0 t k p)).trans ?_
  rw [before0]
  pointwise

/-- The body's normalization of its second block is that of map `t`. -/
theorem normed1 (t : Fin 2) : normed (iblk m c 1 t) = plane (arg1 m c) t := by
  funext k p
  unfold normed plane
  congr 1
  funext k
  unfold iblk
  refine (congrArg (V m c main_v1) (block1 t k p)).trans ?_
  rw [before1]
  pointwise

/-- The first result array after the run. -/
theorem flow_array : (dats m 0 c).arrAt 2 cfg0.N = flowArray (arg0 m c) (arg1 m c) := by
  refine (dats m 0 c).arrAt_eq_of_covers 2 _ (by decide +kernel) fun t hf y => ?_
  blk_simp
  rw [after0_2]
  change (⟨3, ![1, 18, 1024]⟩ : Shape).Idx at y
  idx_vars y
  obtain rfl : y0 = 0 := Subsingleton.elim _ _
  refine Eq.trans ?_ (congrArg (flowArray (arg0 m c) (arg1 m c)) (block2 t y1 y2)).symm
  have hr : y1 = ⟨2 * (y1.val / 2) + y1.val % 2, by omega⟩ := Fin.ext (by simp; omega)
  refine (congrArg (fun r => out0_2 (iblk m c 0 t) (iblk m c 1 t) (ix3 0 r y2)) hr).trans ?_
  refine (flow_block _ _ ⟨y1.val / 2, by omega⟩ ⟨y1.val % 2, by omega⟩ y2).trans ?_
  exact congrArg₂ (fun f g => ahead (flow f g ⟨y1.val % 2, by omega⟩) (off ⟨y1.val / 2, by omega⟩) y2) (normed0 m c t) (normed1 m c t)

/-- The second result array after the run. -/
theorem similarity_array : (dats m 0 c).arrAt 3 cfg0.N = similarityArray (arg0 m c) (arg1 m c) := by
  refine (dats m 0 c).arrAt_eq_of_covers 3 _ (by decide +kernel) fun t hf y => ?_
  blk_simp
  rw [after0_3]
  change (⟨3, ![1, 1, 1024]⟩ : Shape).Idx at y
  idx_vars y
  obtain rfl : y0 = 0 := Subsingleton.elim _ _
  obtain rfl : y1 = 0 := Subsingleton.elim _ _
  refine Eq.trans ?_ (congrArg (similarityArray (arg0 m c) (arg1 m c)) (block3 t y2)).symm
  refine (similarity_block _ _ y2).trans ?_
  exact congrArg₂ (fun f g => ahead (similarity f g) 33 y2) (normed0 m c t) (normed1 m c t)

/-- The displacements by offsets, as the program's last lines lay the first array out. -/
def tail (x : Vec Ideal S2x18x1024 .f32) : Vec Ideal S2x9x1024x2 .f32 :=
  transpose S2x9x1024x2 [0, 1, 3, 2] (shapeCast S2x9x2x1024 x shapeCasts_S2x18x1024_S2x9x2x1024) transposes_S2x9x2x1024_S2x9x1024x2_0_1_3_2

/-- An entry of it. -/
theorem tail_apply (x y : Maps) (b : Fin 2) (o : Fin 9) (p : Fin 1024) (d : Fin 2) :
    tail (flowArray x y) (ix4 b o p d) = ahead (flow (plane x b) (plane y b) d) (off o) p := by
  have hd : (⟨(o.val * 2 + d.val) % 2, by omega⟩ : Fin 2) = d := Fin.ext (by simp; omega)
  have ho : (⟨(o.val * 2 + d.val) / 2, by omega⟩ : Fin 9) = o := Fin.ext (by simp; omega)
  pointwise [tail]
  exact congrArg₂ (fun d o => ahead (flow (plane x b) (plane y b) d) (off o) p) hd ho

/-- The program's second result from the first array. -/
theorem tail_all (x y : Maps) : shapeCast S2x9x32x32x2 (tail (flowArray x y)) shapeCasts_S2x9x1024x2_S2x9x32x32x2 = displacements x y := by
  funext j
  idx_vars j
  pointwise
  exact tail_apply x y j0 j1 (place j2 j3) j4

/-- The program's first result from the first array. -/
theorem tail_first (x y : Maps) :
    shapeCast S2x32x32x2 (shapeCast S2x1024x2 (extractStridedSlice S2x1x1024x2 ![0, 0, 0, 0] (tail (flowArray x y)) slices_S2x9x1024x2_S2x1x1024x2_0_0_0_0) shapeCasts_S2x1x1024x2_S2x1024x2) shapeCasts_S2x1024x2_S2x32x32x2 = displacement x y := by
  funext j
  idx_vars j
  pointwise
  exact tail_apply x y j0 0 (place j1 j2) j3

/-- The program's third result from the second array. -/
theorem tail_similarity (x y : Maps) : shapeCast S2x1x32x32 (similarityArray x y) shapeCasts_S2x1x1024_S2x1x32x32 = similarities x y := by
  funext j
  idx_vars j
  pointwise
  rfl

/-- The windows are over four different arrays. -/
theorem arrays_differ : Function.Injective (Pipeline.arrRef spec0) := by decide

/-- The kernel's run: its three results are the displacements, the displacements by offsets, and the similarities. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v8) = displacement (arg0 m c) (arg1 m c)
      ∧ r.2.mem ((c.tc : Thread nD τ).loc main_v5) = displacements (arg0 m c) (arg1 m c)
      ∧ r.2.mem ((c.tc : Thread nD τ).loc main_v9) = similarities (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hx (c : Dev nD) : Pipeline.withArrays (cfgs 0).spec c (V0 m c) (fun w => (dats m 0 c).arrAt w (cfgs 0).N) (Proc.devRef .tc main_v2_0)
      = flowArray (arg0 m c) (arg1 m c) := (Pipeline.withArrays_arr spec0 arrays_differ c _ _ 2).trans (flow_array m c)
  have hy (c : Dev nD) : Pipeline.withArrays (cfgs 0).spec c (V0 m c) (fun w => (dats m 0 c).arrAt w (cfgs 0).N) (Proc.devRef .tc main_v2_1)
      = similarityArray (arg0 m c) (arg1 m c) := (Pipeline.withArrays_arr spec0 arrays_differ c _ _ 3).trans (similarity_array m c)
  run_from run_main m ρ
  · unfold Pipeline.afterTail₀
    simp only [hostOps1, List.flatten_cons, List.flatten_nil, List.append_nil]
    after_results
    rw [hx c]
    exact tail_first _ _
  · unfold Pipeline.afterTail₀
    simp only [hostOps1, List.flatten_cons, List.flatten_nil, List.append_nil]
    after_results
    rw [hx c]
    exact tail_all _ _
  · unfold Pipeline.afterTail₀
    simp only [hostOps1, List.flatten_cons, List.flatten_nil, List.append_nil]
    after_results
    rw [hy c]
    exact tail_similarity _ _
  · exact W_main_arg0 m (dats m) c
  · exact W_main_arg1 m (dats m) c

end

end Cert.Proof
-- ==== Proof.RefStages.lean ====
module

public import proofs.«01_k».proof.Proof.Gen.ReferenceIdeal
public import Idealize.ShloMosaic.PureOps.Ideal

/-! The stages of the reference, each as one function of the values before it. -/

@[expose] public section

noncomputable section

namespace Cert.Proof

open Idealize.ShloMosaic Cert.ReferenceIdeal Cert.ReferenceIdeal.Gen

/-- Nine arrays of patches, one for each offset, side by side. -/
def cat9 (u0 u1 u2 u3 u4 u5 u6 u7 u8 : FVec Ideal S2x192x1x30x30 .f32) : FVec Ideal S2x192x9x30x30 .f32 :=
  concatenate S2x192x9x30x30 2 [⟨S2x192x1x30x30, u0⟩, ⟨S2x192x1x30x30, u1⟩, ⟨S2x192x1x30x30, u2⟩, ⟨S2x192x1x30x30, u3⟩, ⟨S2x192x1x30x30, u4⟩, ⟨S2x192x1x30x30, u5⟩, ⟨S2x192x1x30x30, u6⟩, ⟨S2x192x1x30x30, u7⟩, ⟨S2x192x1x30x30, u8⟩]
    concatenates_S2x192x1x30x30_S2x192x1x30x30_S2x192x1x30x30_S2x192x1x30x30_S2x192x1x30x30_S2x192x1x30x30_S2x192x1x30x30_S2x192x1x30x30_S2x192x1x30x30_S2x192x9x30x30_d2

/-- Nine shifted flows, one for each offset, side by side. -/
def stack9 (u0 u1 u2 u3 u4 u5 u6 u7 u8 : FVec Ideal S2x1x32x32x2 .f32) : FVec Ideal S2x9x32x32x2 .f32 :=
  concatenate S2x9x32x32x2 1 [⟨S2x1x32x32x2, u0⟩, ⟨S2x1x32x32x2, u1⟩, ⟨S2x1x32x32x2, u2⟩, ⟨S2x1x32x32x2, u3⟩, ⟨S2x1x32x32x2, u4⟩, ⟨S2x1x32x32x2, u5⟩, ⟨S2x1x32x32x2, u6⟩, ⟨S2x1x32x32x2, u7⟩, ⟨S2x1x32x32x2, u8⟩]
    concatenates_S2x1x32x32x2_S2x1x32x32x2_S2x1x32x32x2_S2x1x32x32x2_S2x1x32x32x2_S2x1x32x32x2_S2x1x32x32x2_S2x1x32x32x2_S2x1x32x32x2_S2x9x32x32x2_d1

/-- The two components of the column and row numbers of a 30 by 30 grid. -/
def gridPair (a b : IVec S30x30x1 32) : IVec S30x30x2 32 :=
  concatenate S30x30x2 2 [⟨S30x30x1, a⟩, ⟨S30x30x1, b⟩] concatenates_S30x30x1_S30x30x1_S30x30x2_d2

/-- The two components of the best match. -/
def matchPair (a b : IVec S2x30x30x1 32) : IVec S2x30x30x2 32 :=
  concatenate S2x30x30x2 3 [⟨S2x30x30x1, a⟩, ⟨S2x30x30x1, b⟩] concatenates_S2x30x30x1_S2x30x30x1_S2x30x30x2_d3

/-- A feature map divided by its columns' lengths. -/
def normT (x : FVec Ideal S2x192x32x32 .f32) : FVec Ideal S2x192x32x32 .f32 :=
  Host.divf x (broadcastInDim S2x192x32x32 ![0, 1, 2, 3] bcast_S2x1x32x32_S2x192x32x32_0_1_2_3
    (maximumf (Host.sqrt (broadcastInDim S2x1x32x32 ![0, 2, 3] bcast_S2x32x32_S2x1x32x32_0_2_3
      (Host.reduceAdd (mulf x x) (constant S_ .f32 0x00000000#32) reducesTo_S2x192x32x32_S2x32x32_d1 h_S_)))
      (broadcastInDim S2x1x32x32 ![] bcast_S_S2x1x32x32 (constant S_ .f32 0x2B8CBCCC#32))))

/-- All 3 by 3 patches of a feature map, one per column. -/
def patchesT (x : FVec Ideal S2x192x32x32 .f32) : FVec Ideal S2x1728x900 .f32 :=
  shapeCast S2x1728x900 (cat9
    (broadcastInDim S2x192x1x30x30 ![0, 1, 3, 4] bcast_S2x192x30x30_S2x192x1x30x30_0_1_3_4 (extractStridedSlice S2x192x30x30 ![0, 0, 0, 0] x slices_S2x192x32x32_S2x192x30x30_0_0_0_0))
    (broadcastInDim S2x192x1x30x30 ![0, 1, 3, 4] bcast_S2x192x30x30_S2x192x1x30x30_0_1_3_4 (extractStridedSlice S2x192x30x30 ![0, 0, 0, 1] x slices_S2x192x32x32_S2x192x30x30_0_0_0_1))
    (broadcastInDim S2x192x1x30x30 ![0, 1, 3, 4] bcast_S2x192x30x30_S2x192x1x30x30_0_1_3_4 (extractStridedSlice S2x192x30x30 ![0, 0, 0, 2] x slices_S2x192x32x32_S2x192x30x30_0_0_0_2))
    (broadcastInDim S2x192x1x30x30 ![0, 1, 3, 4] bcast_S2x192x30x30_S2x192x1x30x30_0_1_3_4 (extractStridedSlice S2x192x30x30 ![0, 0, 1, 0] x slices_S2x192x32x32_S2x192x30x30_0_0_1_0))
    (broadcastInDim S2x192x1x30x30 ![0, 1, 3, 4] bcast_S2x192x30x30_S2x192x1x30x30_0_1_3_4 (extractStridedSlice S2x192x30x30 ![0, 0, 1, 1] x slices_S2x192x32x32_S2x192x30x30_0_0_1_1))
    (broadcastInDim S2x192x1x30x30 ![0, 1, 3, 4] bcast_S2x192x30x30_S2x192x1x30x30_0_1_3_4 (extractStridedSlice S2x192x30x30 ![0, 0, 1, 2] x slices_S2x192x32x32_S2x192x30x30_0_0_1_2))
    (broadcastInDim S2x192x1x30x30 ![0, 1, 3, 4] bcast_S2x192x30x30_S2x192x1x30x30_0_1_3_4 (extractStridedSlice S2x192x30x30 ![0, 0, 2, 0] x slices_S2x192x32x32_S2x192x30x30_0_0_2_0))
    (broadcastInDim S2x192x1x30x30 ![0, 1, 3, 4] bcast_S2x192x30x30_S2x192x1x30x30_0_1_3_4 (extractStridedSlice S2x192x30x30 ![0, 0, 2, 1] x slices_S2x192x32x32_S2x192x30x30_0_0_2_1))
    (broadcastInDim S2x192x1x30x30 ![0, 1, 3, 4] bcast_S2x192x30x30_S2x192x1x30x30_0_1_3_4 (extractStridedSlice S2x192x30x30 ![0, 0, 2, 2] x slices_S2x192x32x32_S2x192x30x30_0_0_2_2))) shapeCasts_S2x192x9x30x30_S2x1728x900

/-- The patches divided by their lengths (plus a small constant). -/
def filtersT (p : FVec Ideal S2x1728x900 .f32) : FVec Ideal S2x1728x900 .f32 :=
  Host.divf p (broadcastInDim S2x1728x900 ![0, 1, 2] bcast_S2x1x900_S2x1728x900_0_1_2
    (addf (Host.sqrt (broadcastInDim S2x1x900 ![0, 2] bcast_S2x900_S2x1x900_0_2
      (Host.reduceAdd (mulf p p) (constant S_ .f32 0x00000000#32) reducesTo_S2x1728x900_S2x900_d1 h_S_)))
      (broadcastInDim S2x1x900 ![] bcast_S_S2x1x900 (constant S_ .f32 0x3727C5AC#32))))

/-- Every filter against every patch. -/
def corrT (f p : FVec Ideal S2x1728x900 .f32) : FVec Ideal S2x900x900 .f32 :=
  Host.dotGeneral dot_S2x1728x900_S2x1728x900_S2x900x900_1_1_2_2_0_0 none f p

/-- The largest correlation of each patch. -/
def maxT (r : FVec Ideal S2x900x900 .f32) : FVec Ideal S2x900 .f32 :=
  Host.reduce FloatOps.maximumf r (constant S_ .f32 0xFF800000#32) reducesTo_S2x900x900_S2x900_d1 h_S_

/-- The filter that attains it. -/
def idxT (r : FVec Ideal S2x900x900 .f32) : IVec S2x900 32 :=
  fun j => (Host.argReduce reducer_argmax_f32_i32 r (iotaInDim S2x900x900 32 1) (constant S_ .f32 0xFF800000#32) (constantI S_ 32 0#32)
    reducesTo_S2x900x900_S2x900_d1 h_S_ j).2

/-- The best filters on the grid of patches. -/
def wordsT (r : FVec Ideal S2x900x900 .f32) : IVec S2x30x30 32 := shapeCast S2x30x30 (idxT r) shapeCasts_S2x900_S2x30x30

/-- The similarity map from the largest correlations and the patches. -/
def simT (mx : FVec Ideal S2x900 .f32) (p : FVec Ideal S2x1728x900 .f32) : FVec Ideal S2x1x32x32 .f32 :=
  pad S2x1x32x32 ![0, 0, 1, 1] ![0, 0, 1, 1] ![0, 0, 0, 0]
    (shapeCast S2x1x30x30 (Host.divf mx (addf (Host.sqrt
      (Host.reduceAdd (mulf p p) (constant S_ .f32 0x00000000#32) reducesTo_S2x1728x900_S2x900_d1 h_S_))
      (broadcastInDim S2x900 ![] bcast_S_S2x900 (constant S_ .f32 0x3727C5AC#32)))) shapeCasts_S2x900_S2x1x30x30)
    (sitofp .f32 (constantI S_ 32 0#32)) pads_S2x1x30x30_S2x1x32x32_000_000_110_110 h_S_

/-- The width of the grid of patches, as the divisor of a remainder. -/
def widthT : IVec S_ 32 :=
  select (cmpi .eq (id (constantI S_ 32 30#32)) (constantI S_ 32 0#32)) (constantI S_ 32 1#32) (id (constantI S_ 32 30#32))

/-- The column of a filter in the grid of patches. -/
def colT (i : IVec S2x30x30 32) : IVec S2x30x30 32 :=
  select
    (andi (cmpi .ne (cmpi .slt (Host.remsi i (broadcastInDim S2x30x30 ![] bcast_S_S2x30x30 widthT))
        (broadcastInDim S2x30x30 ![] bcast_S_S2x30x30 (constantI S_ 32 0#32)))
        (broadcastInDim S2x30x30 ![] bcast_S_S2x30x30 (cmpi .slt widthT (constantI S_ 32 0#32))))
      (cmpi .ne (Host.remsi i (broadcastInDim S2x30x30 ![] bcast_S_S2x30x30 widthT))
        (broadcastInDim S2x30x30 ![] bcast_S_S2x30x30 (constantI S_ 32 0#32))))
    (addi (Host.remsi i (broadcastInDim S2x30x30 ![] bcast_S_S2x30x30 widthT)) (broadcastInDim S2x30x30 ![] bcast_S_S2x30x30 widthT))
    (Host.remsi i (broadcastInDim S2x30x30 ![] bcast_S_S2x30x30 widthT))

/-- The row of a filter in the grid of patches. -/
def rowT (i : IVec S2x30x30 32) : IVec S2x30x30 32 :=
  select
    (andi (cmpi .ne (signi i) (broadcastInDim S2x30x30 ![] bcast_S_S2x30x30 (signi (id (constantI S_ 32 30#32)))))
      (cmpi .ne (Host.remsi i (broadcastInDim S2x30x30 ![] bcast_S_S2x30x30 (id (constantI S_ 32 30#32))))
        (broadcastInDim S2x30x30 ![] bcast_S_S2x30x30 (constantI S_ 32 0#32))))
    (subi (Host.divsi i (broadcastInDim S2x30x30 ![] bcast_S_S2x30x30 (id (constantI S_ 32 30#32))))
      (broadcastInDim S2x30x30 ![] bcast_S_S2x30x30 (constantI S_ 32 1#32)))
    (Host.divsi i (broadcastInDim S2x30x30 ![] bcast_S_S2x30x30 (id (constantI S_ 32 30#32))))

/-- The column and row numbers of the grid, as floats. -/
def gridT : FVec Ideal S2x30x30x2 .f32 :=
  broadcastInDim S2x30x30x2 ![0, 1, 2, 3] bcast_S1x30x30x2_S2x30x30x2_0_1_2_3 (sitofp .f32
    (broadcastInDim S1x30x30x2 ![1, 2, 3] bcast_S30x30x2_S1x30x30x2_1_2_3 (gridPair
      (broadcastInDim S30x30x1 ![0, 1] bcast_S30x30_S30x30x1_0_1 (broadcastInDim S30x30 ![1] bcast_S30_S30x30_1 (iotaInDim S30 32 0)))
      (broadcastInDim S30x30x1 ![0, 1] bcast_S30x30_S30x30x1_0_1 (broadcastInDim S30x30 ![0] bcast_S30_S30x30_0 (iotaInDim S30 32 0))))))

/-- The flow map from the best filters. -/
def flowT (i : IVec S2x30x30 32) : FVec Ideal S2x32x32x2 .f32 :=
  pad S2x32x32x2 ![0, 0, 0, 0] ![0, 2, 2, 0] ![0, 0, 0, 0]
    (subf (sitofp .f32 (matchPair
      (broadcastInDim S2x30x30x1 ![0, 1, 2] bcast_S2x30x30_S2x30x30x1_0_1_2 (colT i))
      (broadcastInDim S2x30x30x1 ![0, 1, 2] bcast_S2x30x30_S2x30x30x1_0_1_2 (rowT i))))
      gridT)
    (sitofp .f32 (constantI S_ 32 0#32)) pads_S2x30x30x2_S2x32x32x2_000_020_020_000 h_S_

/-- The nine shifted flow maps. -/
def offsetT (w : FVec Ideal S2x32x32x2 .f32) : FVec Ideal S2x9x32x32x2 .f32 :=
  stack9
    (broadcastInDim S2x1x32x32x2 ![0, 2, 3, 4] bcast_S2x32x32x2_S2x1x32x32x2_0_2_3_4
      (pad S2x32x32x2 ![0, 0, 0, 0] ![0, 0, 0, 0] ![0, 0, 0, 0] w (sitofp .f32 (constantI S_ 32 0#32)) pads_S2x32x32x2_S2x32x32x2_000_000_000_000 h_S_))
    (broadcastInDim S2x1x32x32x2 ![0, 2, 3, 4] bcast_S2x32x32x2_S2x1x32x32x2_0_2_3_4
      (pad S2x32x32x2 ![0, 0, 1, 0] ![0, 0, 0, 0] ![0, 0, 0, 0] (extractStridedSlice S2x32x31x2 ![0, 0, 0, 0] w slices_S2x32x32x2_S2x32x31x2_0_0_0_0) (sitofp .f32 (constantI S_ 32 0#32)) pads_S2x32x31x2_S2x32x32x2_000_000_100_000 h_S_))
    (broadcastInDim S2x1x32x32x2 ![0, 2, 3, 4] bcast_S2x32x32x2_S2x1x32x32x2_0_2_3_4
      (pad S2x32x32x2 ![0, 0, 2, 0] ![0, 0, 0, 0] ![0, 0, 0, 0] (extractStridedSlice S2x32x30x2 ![0, 0, 0, 0] w slices_S2x32x32x2_S2x32x30x2_0_0_0_0) (sitofp .f32 (constantI S_ 32 0#32)) pads_S2x32x30x2_S2x32x32x2_000_000_200_000 h_S_))
    (broadcastInDim S2x1x32x32x2 ![0, 2, 3, 4] bcast_S2x32x32x2_S2x1x32x32x2_0_2_3_4
      (pad S2x32x32x2 ![0, 1, 0, 0] ![0, 0, 0, 0] ![0, 0, 0, 0] (extractStridedSlice S2x31x32x2 ![0, 0, 0, 0] w slices_S2x32x32x2_S2x31x32x2_0_0_0_0) (sitofp .f32 (constantI S_ 32 0#32)) pads_S2x31x32x2_S2x32x32x2_000_100_000_000 h_S_))
    (broadcastInDim S2x1x32x32x2 ![0, 2, 3, 4] bcast_S2x32x32x2_S2x1x32x32x2_0_2_3_4
      (pad S2x32x32x2 ![0, 1, 1, 0] ![0, 0, 0, 0] ![0, 0, 0, 0] (extractStridedSlice S2x31x31x2 ![0, 0, 0, 0] w slices_S2x32x32x2_S2x31x31x2_0_0_0_0) (sitofp .f32 (constantI S_ 32 0#32)) pads_S2x31x31x2_S2x32x32x2_000_100_100_000 h_S_))
    (broadcastInDim S2x1x32x32x2 ![0, 2, 3, 4] bcast_S2x32x32x2_S2x1x32x32x2_0_2_3_4
      (pad S2x32x32x2 ![0, 1, 2, 0] ![0, 0, 0, 0] ![0, 0, 0, 0] (extractStridedSlice S2x31x30x2 ![0, 0, 0, 0] w slices_S2x32x32x2_S2x31x30x2_0_0_0_0) (sitofp .f32 (constantI S_ 32 0#32)) pads_S2x31x30x2_S2x32x32x2_000_100_200_000 h_S_))
    (broadcastInDim S2x1x32x32x2 ![0, 2, 3, 4] bcast_S2x32x32x2_S2x1x32x32x2_0_2_3_4
      (pad S2x32x32x2 ![0, 2, 0, 0] ![0, 0, 0, 0] ![0, 0, 0, 0] (extractStridedSlice S2x30x32x2 ![0, 0, 0, 0] w slices_S2x32x32x2_S2x30x32x2_0_0_0_0) (sitofp .f32 (constantI S_ 32 0#32)) pads_S2x30x32x2_S2x32x32x2_000_200_000_000 h_S_))
    (broadcastInDim S2x1x32x32x2 ![0, 2, 3, 4] bcast_S2x32x32x2_S2x1x32x32x2_0_2_3_4
      (pad S2x32x32x2 ![0, 2, 1, 0] ![0, 0, 0, 0] ![0, 0, 0, 0] (extractStridedSlice S2x30x31x2 ![0, 0, 0, 0] w slices_S2x32x32x2_S2x30x31x2_0_0_0_0) (sitofp .f32 (constantI S_ 32 0#32)) pads_S2x30x31x2_S2x32x32x2_000_200_100_000 h_S_))
    (broadcastInDim S2x1x32x32x2 ![0, 2, 3, 4] bcast_S2x32x32x2_S2x1x32x32x2_0_2_3_4
      (pad S2x32x32x2 ![0, 2, 2, 0] ![0, 0, 0, 0] ![0, 0, 0, 0] (extractStridedSlice S2x30x30x2 ![0, 0, 0, 0] w slices_S2x32x32x2_S2x30x30x2_0_0_0_0) (sitofp .f32 (constantI S_ 32 0#32)) pads_S2x30x30x2_S2x32x32x2_000_200_200_000 h_S_))

end Cert.Proof

end
-- ==== Proof.RefRun.lean ====
module

public import proofs.«01_k».proof.Proof.RefStages
public import Idealize.ShloMosaic.Adequacy
public import Idealize.ShloMosaic.Lib.Claim
public import Idealize.ShloMosaic.Lib.StableHlo.RunHlo
public import Idealize.ShloMosaic.Lib.StableHlo.RunRead

/-! What a run of the reference leaves in its buffers: the three results as the stages of the two arguments. -/

@[expose] public section

noncomputable section

namespace Cert.Proof

open Idealize.ShloMosaic Idealize.SL.Sem Cert.ReferenceIdeal Cert.ReferenceIdeal.Gen StableHlo

/-- The operations touch only the core's buffers and take no fresh buffer. -/
def Plain (ops : List (HloOp τ sig (Elt Ideal))) : Prop :=
  (ops.Forall fun op => op.bufs ⊆ tcRefs τ sig) ∧ ∀ op ∈ ops, op.fresh = ∅

set_option maxHeartbeats 4000000 in
set_option maxRecDepth 100000 in
/-- The first window leaves the patches of both normalized arguments. -/
theorem window0 : ∃ ops : List (HloOp τ sig (Elt Ideal)), (∀ d, IsSeq (main_part0 (F := Ideal) d) ops) ∧ Plain ops ∧
    ∀ V, after ops V (Proc.devRef .tc main_v27) = patchesT (normT (V (Proc.devRef .tc main_arg0)))
      ∧ after ops V (Proc.devRef .tc main_v55) = patchesT (normT (V (Proc.devRef .tc main_arg1))) := by
  refine ⟨_, by hlo_seq, ⟨by simp, by intro _ h; (repeat (cases h with | head => rfl | tail _ h => ?_)); exact nomatch h⟩, fun V => ?_⟩
  constructor <;> (after_reads_simp; rfl)

/-- A straight line of operations is the same line cut in three. -/
theorem seq_cut {p : Dev nD → Prog (TpuEff nD τ sig (Elt Ideal) (Pipeline.Sig Λ₀ (Fin 0) fun p => (pcfgs (F := Ideal) p).Adm) .tc) PUnit}
    {L : List (HloOp τ sig (Elt Ideal))} (i j : ℕ) (h : ∀ d, IsSeq (p d) L) (d : Dev nD) :
    IsSeq (p d) (List.take i L ++ (List.take j (List.drop i L) ++ List.drop j (List.drop i L))) := by
  rw [List.take_append_drop, List.take_append_drop]
  exact h d

set_option maxHeartbeats 4000000 in
set_option maxRecDepth 100000 in
/-- The other two windows, cut where the best filters and where the flow map are known: the first piece leaves the
    similarity and the best filters, the second the flow map, the third the nine shifts. -/
theorem window12 : ∃ A B C D : List (HloOp τ sig (Elt Ideal)),
    (∀ d, IsSeq (main_part1 (F := Ideal) d) (A ++ (B ++ C))) ∧ (∀ d, IsSeq (main_part2 (F := Ideal) d) D) ∧
    Plain (A ++ (B ++ C)) ∧ Plain D ∧
    (∀ V, after A V (Proc.devRef .tc main_v74)
        = simT (maxT (corrT (filtersT (V (Proc.devRef .tc main_v55))) (V (Proc.devRef .tc main_v27)))) (V (Proc.devRef .tc main_v27))
      ∧ after A V (Proc.devRef .tc main_v75)
        = wordsT (corrT (filtersT (V (Proc.devRef .tc main_v55))) (V (Proc.devRef .tc main_v27)))) ∧
    (∀ V, after B V (Proc.devRef .tc main_v93) = flowT (V (Proc.devRef .tc main_v75))
      ∧ after B V (Proc.devRef .tc main_v74) = V (Proc.devRef .tc main_v74)) ∧
    (∀ V, after (C ++ D) V (Proc.devRef .tc main_v120) = offsetT (V (Proc.devRef .tc main_v93))
      ∧ after (C ++ D) V (Proc.devRef .tc main_v93) = V (Proc.devRef .tc main_v93)
      ∧ after (C ++ D) V (Proc.devRef .tc main_v74) = V (Proc.devRef .tc main_v74)) := by
  refine ⟨_, _, _, _, seq_cut 31 58 (by hlo_seq), by hlo_seq, ?c, ?d, ?e, ?f, ?g⟩
  case c =>
    rw [List.take_append_drop, List.take_append_drop]
    exact ⟨by simp, by intro _ h; (repeat (cases h with | head => rfl | tail _ h => ?_)); exact nomatch h⟩
  case d =>
    exact ⟨by simp, by intro _ h; (repeat (cases h with | head => rfl | tail _ h => ?_)); exact nomatch h⟩
  case e =>
    intro V
    simp only [List.take]
    constructor
    · after_reads_simp
      rfl
    · after_reads_simp
      simp only [TRef.ofBuf, TRef.toBuf, cast_eq]
      rfl
  case f =>
    intro V
    have hg : ∀ a b, concatenate S30x30x2 2 [⟨S30x30x1, a⟩, ⟨S30x30x1, b⟩] concatenates_S30x30x1_S30x30x1_S30x30x2_d2 = gridPair a b :=
      fun _ _ => rfl
    have hm : ∀ a b, concatenate S2x30x30x2 3 [⟨S2x30x30x1, a⟩, ⟨S2x30x30x1, b⟩] concatenates_S2x30x30x1_S2x30x30x1_S2x30x30x2_d3
        = matchPair a b := fun _ _ => rfl
    simp only [List.take, List.drop, hg, hm]
    constructor
    · after_reads_simp
      simp only [TRef.ofBuf, TRef.toBuf, cast_eq]
      unfold flowT colT rowT widthT gridT
      rfl
    · after_reads_simp
  case g =>
    intro V
    simp only [List.drop, List.cons_append, List.nil_append]
    refine ⟨?_, ?_, ?_⟩
    · after_reads_simp
      rfl
    · after_reads_simp
    · after_reads_simp

/-- A run of the reference: the three results as its stages of the two arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let p := patchesT (normT (m ((c.tc : Thread nD τ).loc main_arg0)))
      let k := corrT (filtersT (patchesT (normT (m ((c.tc : Thread nD τ).loc main_arg1))))) p
      r.2.mem ((c.tc : Thread nD τ).loc main_v93) = flowT (wordsT k)
      ∧ r.2.mem ((c.tc : Thread nD τ).loc main_v120) = offsetT (flowT (wordsT k))
      ∧ r.2.mem ((c.tc : Thread nD τ).loc main_v74) = simT (maxT k) p := by
  obtain ⟨O, hO, ⟨hOs, hOf⟩, h0⟩ := window0
  obtain ⟨A, B, C, D, h1, h2, ⟨hs1, hf1⟩, ⟨hs2, hf2⟩, hA, hB, hC⟩ := window12
  have hmain : ∀ d, IsSeq (main (F := Ideal) d) (O ++ ((A ++ (B ++ C)) ++ D)) := fun d => by
    have := hO d; have := h1 d; have := h2 d
    unfold IsSeq at *
    simp only [main, seq_append, *]
  have hsub : (O ++ ((A ++ (B ++ C)) ++ D)).Forall fun op => op.bufs ⊆ tcRefs τ sig := by
    rw [List.forall_iff_forall_mem] at *
    intro op h
    rcases List.mem_append.mp h with h | h
    · exact hOs op h
    · rcases List.mem_append.mp h with h | h
      · exact hs1 op h
      · exact hs2 op h
  have hfresh : ∀ op ∈ O ++ ((A ++ (B ++ C)) ++ D), op.fresh = ∅ := by
    intro op h
    rcases List.mem_append.mp h with h | h
    · exact hOf op h
    · rcases List.mem_append.mp h with h | h
      · exact hf1 op h
      · exact hf2 op h
  have happ : ∀ (a b : List (HloOp τ sig (Elt Ideal))) V, after (a ++ b) V = after b (after a V) := by
    intro a
    induction a with
    | nil => intro b V; rfl
    | cons o a ih => intro b V; simp only [List.cons_append, after_cons, ih]
  refine θ_run_mono (run_hlo _ _ hmain (by decide) (by decide) hsub hfresh m ρ) fun r h c => ?_
  have hV : after (O ++ ((A ++ (B ++ C)) ++ D)) (launchContents m c)
      = after (C ++ D) (after B (after A (after O (launchContents m c)))) := by
    simp only [happ]
  refine ⟨?_, ?_, ?_⟩
  · rw [h, hV, (hC _).2.1, (hB _).1, (hA _).2, (h0 _).1, (h0 _).2]
  · rw [h, hV, (hC _).1, (hB _).1, (hA _).2, (h0 _).1, (h0 _).2]
  · rw [h, hV, (hC _).2.2, (hB _).2, (hA _).1, (h0 _).1, (h0 _).2]

end Cert.Proof

end
-- ==== Proof.RefPatches.lean ====
module

public import proofs.«01_k».proof.Proof.RefStages
public import proofs.«01_k».proof.Proof.Plane

/-! What the reference's stages compute, entry by entry: the normalized columns, their patches,
    and the correlations of patches and filters. -/

@[expose] public section

namespace Cert.Proof

open Idealize.ShloMosaic Cert.ReferenceIdeal Cert.ReferenceIdeal.Gen

noncomputable section

/-- The normalized map. -/
theorem norm_apply (x : FVec Ideal S2x192x32x32 .f32) (b : Fin 2) (c : Fin 192) (y z : Fin 32) :
    normT x (ix4 b c y z) = plane x b c (place y z) := by
  have hy : (⟨(y.val * 32 + z.val) / 32, by omega⟩ : Fin 32) = y := Fin.ext (by simp; omega)
  have hz : (⟨(y.val * 32 + z.val) % 32, by omega⟩ : Fin 32) = z := Fin.ext (by simp)
  pointwise [normT]
  unfold plane place
  rw [hy, hz]
  rfl

set_option maxRecDepth 16384 in
/-- Nine arrays side by side, read at one of them. -/
theorem cat9_apply (u0 u1 u2 u3 u4 u5 u6 u7 u8 : FVec Ideal S2x192x1x30x30 .f32) (b : Fin 2) (c : Fin 192) (o : Fin 9) (y z : Fin 30) :
    cat9 u0 u1 u2 u3 u4 u5 u6 u7 u8 (ix5 b c o y z) = ![u0, u1, u2, u3, u4, u5, u6, u7, u8] o (ix5 b c 0 y z) := by
  fin_cases o <;> pointwise [cat9] <;> rfl

/-- A place of the grid of patches in the flat map, with the offset of a patch's entry. -/
theorem pos_off (k : Fin 900) (o : Fin 9) : (pos k).val + off o < 1024 := by
  have : (pos k).val = k.val / 30 * 32 + k.val % 30 := rfl
  unfold off
  omega

/-- The patches laid out as a matrix. -/
theorem stack_apply (u : FVec Ideal S2x192x9x30x30 .f32) (b : Fin 2) (c : Fin 192) (o : Fin 9) (k : Fin 900) :
    shapeCast S2x1728x900 u shapeCasts_S2x192x9x30x30_S2x1728x900 (ix3 b ⟨c.val * 9 + o.val, by omega⟩ k)
      = u (ix5 b c o ⟨k.val / 30, by omega⟩ ⟨k.val % 30, by omega⟩) := by
  pointwise

/-- The entry of the patch at `k` with offset `o` in channel `c`. -/
theorem patch_apply (x : FVec Ideal S2x192x32x32 .f32) (b : Fin 2) (c : Fin 192) (o : Fin 9) (k : Fin 900) :
    patchesT (normT x) (ix3 b ⟨c.val * 9 + o.val, by omega⟩ k) = ext (plane x b c) ((pos k).val + off o) := by
  unfold ext
  rw [dif_pos (pos_off k o)]
  unfold patchesT
  generalize hn : normT x = n
  have h (y z : Fin 32) (e : y.val * 32 + z.val = k.val / 30 * 32 + k.val % 30 + off o) : n (ix4 b c y z) = plane x b c ⟨(pos k).val + off o, pos_off k o⟩ := by
    rw [← hn, norm_apply]
    congr 1
    exact Fin.ext e
  refine (stack_apply _ b c o k).trans ?_
  rw [cat9_apply]
  clear hn
  fin_cases o <;>
  · simp only [Fin.zero_eta, Fin.isValue, Matrix.cons_val]
    pointwise
    refine h _ _ ?_
    simp [off] <;> omega

/-- The square of a flat map's columns, read at any distance. -/
theorem ext_square (g : Fin 192 → Fin 1024 → EReal) (n : ℕ) : ext (fun k => ∑ c, g c k * g c k) n = ∑ c, ext (g c) n * ext (g c) n := by
  unfold ext
  split <;> simp

/-- A sum over the 1728 entries of a patch: nine offsets of 192 channels. -/
theorem sum_entries (f : Fin 1728 → EReal) : ∑ k, f k = ∑ o : Fin 9, ∑ c : Fin 192, f ⟨c.val * 9 + o.val, by omega⟩ := by
  rw [Finset.sum_comm, ← Fintype.sum_prod_type' (fun (c : Fin 192) (o : Fin 9) => f ⟨c.val * 9 + o.val, by omega⟩)]
  refine (Fintype.sum_equiv (finProdFinEquiv (m := 192) (n := 9)) _ _ fun x => ?_).symm
  congr 1
  ext
  simp [finProdFinEquiv]
  omega

/-- The squared length of a patch. -/
theorem square_apply (x : FVec Ideal S2x192x32x32 .f32) (b : Fin 2) (k : Fin 900) :
    ∑ e, patchesT (normT x) (ix3 b e k) * patchesT (normT x) (ix3 b e k) = patchSq (plane x b) (pos k) := by
  rw [sum_entries]
  unfold patchSq
  refine Finset.sum_congr rfl fun o _ => ?_
  rw [ext_square]
  refine Finset.sum_congr rfl fun c _ => ?_
  rw [patch_apply]

/-- A filter of the second map against a patch of the first. -/
theorem corr_apply (x y : FVec Ideal S2x192x32x32 .f32) (b : Fin 2) (k q : Fin 900) :
    corrT (filtersT (patchesT (normT y))) (patchesT (normT x)) (ix3 b k q) = corr (plane x b) (plane y b) (pos q) (pos k) := by
  have h := square_apply y b k
  pointwise [corrT, filtersT]
  rw [h, sum_entries]
  unfold corr
  refine Finset.sum_congr rfl fun o _ => Finset.sum_congr rfl fun c _ => ?_
  rw [patch_apply, patch_apply, mul_comm]
  rfl

end

end Cert.Proof
-- ==== Proof.RefSearch.lean ====
module

public import proofs.«01_k».proof.Proof.RefStages
public import proofs.«01_k».proof.Proof.FirstMax
public import Idealize.ShloMosaic.Lib.Pointwise

/-! What the reference's search computes: the first filter that matches a patch best. -/

@[expose] public section

namespace Cert.Proof

open Idealize.ShloMosaic Cert.ReferenceIdeal Cert.ReferenceIdeal.Gen

noncomputable section

/-- The larger value of a column of correlations. -/
theorem max_apply (r : FVec Ideal S2x900x900 .f32) (b : Fin 2) (q k : Fin 900) (hk : IsFirstMax (fun k => r (ix3 b k q)) k) :
    maxT r (ix2 b q) = r (ix3 b k q) := by
  pointwise [maxT]
  exact fold_max hk

/-- One step of the reference's search: the larger value, and on a tie the smaller number. -/
theorem step_apply (a b : EReal × BitVec 32) : reducer_argmax_f32_i32 (F := Ideal) a b
    = if b.1 < a.1 then a else if a.1 = b.1 then (b.1, if a.2.toInt < b.2.toInt then a.2 else b.2) else b := by
  obtain ⟨a1, a2⟩ := a
  obtain ⟨b1, b2⟩ := b
  unfold reducer_argmax_f32_i32
  simp only [Ideal.cmpf_def, Ideal.cmp]
  by_cases h1 : b1 < a1
  · simp [h1, h1.ne', Scalar.select, IntOp.ori, IntOp.andi, IntOp.cmpi, BitVec.slt]
  · by_cases h2 : a1 = b1
    · subst h2
      by_cases h3 : a2.toInt < b2.toInt <;> simp [h3, Scalar.select, IntOp.ori, IntOp.andi, IntOp.cmpi, BitVec.slt]
    · simp [h1, h2, Scalar.select, IntOp.ori, IntOp.andi, IntOp.cmpi, BitVec.slt]

/-- What the search keeps: a pair it has met, with the largest value, and the smallest number among equals. -/
theorem search_spec (L : List (EReal × BitVec 32)) (a : EReal × BitVec 32) :
    (L.foldl (reducer_argmax_f32_i32 (F := Ideal)) a ∈ a :: L)
    ∧ ∀ p ∈ a :: L, p.1 ≤ (L.foldl (reducer_argmax_f32_i32 (F := Ideal)) a).1
      ∧ (p.1 = (L.foldl (reducer_argmax_f32_i32 (F := Ideal)) a).1 → (L.foldl (reducer_argmax_f32_i32 (F := Ideal)) a).2.toInt ≤ p.2.toInt) := by
  induction L generalizing a with
  | nil => simp
  | cons b L ih =>
    rw [List.foldl_cons]
    obtain ⟨h1, h2⟩ := ih (reducer_argmax_f32_i32 (F := Ideal) a b)
    generalize hr : L.foldl (reducer_argmax_f32_i32 (F := Ideal)) (reducer_argmax_f32_i32 (F := Ideal) a b) = r at *
    have hs := h2 _ List.mem_cons_self
    have hm : reducer_argmax_f32_i32 (F := Ideal) a b = a ∨ reducer_argmax_f32_i32 (F := Ideal) a b = b := by
      rw [step_apply]
      split
      · exact .inl rfl
      · split
        · rename_i e
          split
          · exact .inl (Prod.ext e.symm rfl)
          · exact .inr rfl
        · exact .inr rfl
    have hl (p) (hp : p = a ∨ p = b) : p.1 ≤ (reducer_argmax_f32_i32 (F := Ideal) a b).1
        ∧ (p.1 = (reducer_argmax_f32_i32 (F := Ideal) a b).1 → (reducer_argmax_f32_i32 (F := Ideal) a b).2.toInt ≤ p.2.toInt) := by
      rw [step_apply]
      split
      · rename_i e
        rcases hp with rfl | rfl
        · exact ⟨le_rfl, fun _ => le_rfl⟩
        · exact ⟨e.le, fun h => absurd h e.ne⟩
      · rename_i e
        split
        · rename_i e'
          split
          · rcases hp with rfl | rfl
            · exact ⟨e'.le, fun _ => le_rfl⟩
            · exact ⟨le_rfl, fun _ => by simp only; omega⟩
          · rcases hp with rfl | rfl
            · exact ⟨e'.le, fun _ => by simp only; omega⟩
            · exact ⟨le_rfl, fun _ => le_rfl⟩
        · rename_i e'
          have hlt : a.1 < b.1 := lt_of_le_of_ne (not_lt.mp e) e'
          rcases hp with rfl | rfl
          · exact ⟨hlt.le, fun h => absurd h hlt.ne⟩
          · exact ⟨le_rfl, fun _ => le_rfl⟩
    refine ⟨?_, fun p hp => ?_⟩
    · rcases List.mem_cons.mp h1 with h | h
      · rw [h]
        rcases hm with h | h <;> simp [h]
      · simp [h]
    · have key : p = a ∨ p = b ∨ p ∈ L := by simpa using hp
      rcases key with h | h | h
      · have := hl p (.inl h)
        exact ⟨this.1.trans hs.1, fun e => (hs.2 (le_antisymm hs.1 (e ▸ this.1))).trans (this.2 (le_antisymm this.1 (e ▸ hs.1)))⟩
      · have := hl p (.inr h)
        exact ⟨this.1.trans hs.1, fun e => (hs.2 (le_antisymm hs.1 (e ▸ this.1))).trans (this.2 (le_antisymm this.1 (e ▸ hs.1)))⟩
      · exact h2 p (List.mem_cons_of_mem _ h)

/-- The pairs the search meets: the correlations of one patch with their filters' numbers. -/
theorem mem_pairs (r : FVec Ideal S2x900x900 .f32) (b : Fin 2) (q : Fin 900) (p : EReal × BitVec 32) :
    p ∈ Host.argReduceFiber r (iotaInDim S2x900x900 32 1) reducesTo_S2x900x900_S2x900_d1 (ix2 b q)
      ↔ ∃ k : Fin 900, p = (r (ix3 b k q), BitVec.ofNat 32 k.val) := by
  unfold Host.argReduceFiber
  simp only [List.mem_map, List.mem_filter, List.mem_finRange, true_and, decide_eq_true_eq]
  constructor
  · rintro ⟨n, hn, rfl⟩
    obtain ⟨k, hk⟩ := (Shape.ReducesTo.fiber_r3_a1 _ _ _).mp hn
    exact ⟨k, by rw [← hk]; rfl⟩
  · rintro ⟨k, rfl⟩
    refine ⟨S2x900x900.rowMajor (ix3 b k q), ?_, ?_⟩
    · rw [Equiv.symm_apply_apply]
      exact (Shape.ReducesTo.fiber_r3_a1 _ _ _).mpr ⟨k, rfl⟩
    · rw [Equiv.symm_apply_apply]
      rfl

/-- The search ends at the first filter that matches best. -/
theorem idx_apply (r : FVec Ideal S2x900x900 .f32) (b : Fin 2) (q k : Fin 900) (hk : IsFirstMax (fun k => r (ix3 b k q)) k) :
    idxT r (ix2 b q) = BitVec.ofNat 32 k.val := by
  unfold idxT
  rw [Ideal.argReduce_eq_reduce2, Host.reduce2_eq_foldl_fiber]
  obtain ⟨h1, h2⟩ := search_spec (Host.argReduceFiber r (iotaInDim S2x900x900 32 1) reducesTo_S2x900x900_S2x900_d1 (ix2 b q)) (⊥, 0#32)
  have hinit : ((constant S_ .f32 0xFF800000#32 : FVec Ideal S_ .f32) (Shape.Idx.first h_S_), (constantI S_ 32 0#32) (Shape.Idx.first h_S_)) = ((⊥ : EReal), 0#32) :=
    Prod.ext bot_eq rfl
  rw [hinit]
  generalize (Host.argReduceFiber r (iotaInDim S2x900x900 32 1) reducesTo_S2x900x900_S2x900_d1 (ix2 b q)).foldl (reducer_argmax_f32_i32 (F := Ideal)) (⊥, 0#32) = s at *
  have hi := h2 _ List.mem_cons_self
  have hmem (j : Fin 900) := h2 _ (List.mem_cons_of_mem _ ((mem_pairs r b q _).mpr ⟨j, rfl⟩))
  rcases List.mem_cons.mp h1 with h | h
  · subst h
    have hbot : r (ix3 b k q) = ⊥ := le_bot_iff.mp (hmem k).1
    have hk0 : k.val = 0 := by
      by_contra hne
      have := hk.2 ⟨0, by omega⟩ (Fin.lt_def.mpr (Nat.pos_of_ne_zero hne))
      simp only [hbot] at this
      exact absurd this not_lt_bot
    rw [hk0]
  · obtain ⟨j, rfl⟩ := (mem_pairs r b q s).mp h
    have hj : IsFirstMax (fun k => r (ix3 b k q)) j := by
      refine ⟨fun i => (hmem i).1, fun i hij => lt_of_le_of_ne (hmem i).1 fun e => ?_⟩
      have := (hmem i).2 e
      simp only at this
      rw [toInt_small (n := j.val) (by omega), toInt_small (n := i.val) (by omega)] at this
      have := Fin.lt_def.mp hij
      omega
    rw [hk.unique hj]

end

end Cert.Proof
-- ==== Proof.RefLayout.lean ====
module

public import proofs.«01_k».proof.Proof.RefStages
public import proofs.«01_k».proof.Proof.Plane

/-! How the reference lays its results out: rows and columns of the best filters, and the maps padded and shifted. -/

@[expose] public section

namespace Cert.Proof

open Idealize.ShloMosaic Cert.ReferenceIdeal Cert.ReferenceIdeal.Gen

noncomputable section

set_option maxRecDepth 16384

/-- The column of a filter in the grid of patches. -/
theorem col_apply (i : IVec S2x30x30 32) (b : Fin 2) (y z : Fin 30) (k : Fin 900) (h : i (ix3 b y z) = BitVec.ofNat 32 k.val) :
    colT i (ix3 b y z) = BitVec.ofNat 32 (k.val % 30) := by
  pointwise [colT, widthT]
  simp only [h]
  clear h
  revert k
  decide +kernel

/-- The row of a filter in the grid of patches. -/
theorem row_apply (i : IVec S2x30x30 32) (b : Fin 2) (y z : Fin 30) (k : Fin 900) (h : i (ix3 b y z) = BitVec.ofNat 32 k.val) :
    rowT i (ix3 b y z) = BitVec.ofNat 32 (k.val / 30) := by
  pointwise [rowT]
  simp only [h]
  clear h
  revert k
  decide +kernel

/-- The converted zero is zero. -/
theorem num_zero : FloatOps.sitofp (F := Ideal) .f32 (0#32) = (0 : EReal) := by
  show (((0#32 : BitVec 32).toInt : ℝ) : EReal) = 0
  simp

/-- Where a place of the map lies. -/
theorem inside_place (y z : Fin 32) : Inside (place y z) ↔ y.val < 30 ∧ z.val < 30 := by
  unfold Inside place
  constructor <;> intro h <;> constructor <;> simp only at * <;> omega

/-- The flow map from the numbers of the best filters. -/
theorem flow_apply (i : IVec S2x30x30 32) (b : Fin 2) (y z : Fin 32) (d : Fin 2) (k : Fin 30 → Fin 30 → Fin 900)
    (h : ∀ y z, i (ix3 b y z) = BitVec.ofNat 32 (k y z).val) :
    flowT i (ix4 b y z d) = if h : y.val < 30 ∧ z.val < 30 then
      num (coord d (pos (k ⟨y.val, h.1⟩ ⟨z.val, h.2⟩)).val) - num (coord d (place y z).val) else 0 := by
  have hp (k : Fin 900) : (pos k).val % 32 = k.val % 30 ∧ (pos k).val / 32 = k.val / 30 := by
    unfold pos
    constructor <;> simp only <;> omega
  have hq : (place y z).val % 32 = z.val ∧ (place y z).val / 32 = y.val := by
    unfold place
    constructor <;> simp only <;> omega
  fin_cases d
  · pointwise [flowT, matchPair, gridT, gridPair]
    simp only [col_apply _ _ _ _ _ (h _ _), num_zero, coord, hp, hq]
    rfl
  · pointwise [flowT, matchPair, gridT, gridPair]
    simp only [row_apply _ _ _ _ _ (h _ _), num_zero, coord, hp, hq]
    rfl

/-- A map that is zero where no patch fits, moved down by `r` and right by `s`, is the flat map moved ahead. -/
theorem shift_flat {f : Fin 1024 → EReal} (h0 : ∀ p, ¬ Inside p → f p = 0) (r s : ℕ) (hr : r ≤ 2) (hs : s ≤ 2) (y z : Fin 32) :
    (if h : r ≤ y.val ∧ s ≤ z.val then f (place ⟨y.val - r, by omega⟩ ⟨z.val - s, by omega⟩) else 0) = ahead f (r * 32 + s) (place y z) := by
  unfold ahead place
  split
  · rename_i h
    rw [if_neg (by simp only; omega)]
    congr 1
    apply Fin.ext
    simp only
    omega
  · rename_i h
    split
    · rfl
    · rename_i h'
      refine (h0 _ fun hi => ?_).symm
      unfold Inside at hi
      simp only at hi h'
      omega

/-- The nine shifted maps. -/
theorem offset_apply (w : FVec Ideal S2x32x32x2 .f32) (b : Fin 2) (o : Fin 9) (y z : Fin 32) (d : Fin 2) {f : Fin 1024 → EReal}
    (h0 : ∀ p, ¬ Inside p → f p = 0) (h : ∀ y z, w (ix4 b y z d) = f (place y z)) :
    offsetT w (ix5 b o y z d) = ahead f (off o) (place y z) := by
  refine Eq.trans ?_ (shift_flat h0 (o.val / 3) (o.val % 3) (by omega) (by omega) y z)
  fin_cases o <;> pointwise [offsetT, stack9] <;> simp only [h, num_zero] <;> (split <;> split <;> first | rfl | (exfalso; omega))

/-- The similarity map from the best correlations and the lengths. -/
theorem sim_apply (mx : FVec Ideal S2x900 .f32) (p : FVec Ideal S2x1728x900 .f32) (b : Fin 2) (y z : Fin 32) {f : Fin 1024 → EReal}
    (h0 : ∀ p, ¬ Inside p → f p = 0)
    (h : ∀ q, Ideal.div (mx (ix2 b q)) (Ideal.sqrt (∑ e, p (ix3 b e q) * p (ix3 b e q)) + small) = f (pos q)) :
    simT mx p (ix4 b 0 y z) = ahead f 33 (place y z) := by
  refine Eq.trans ?_ (shift_flat h0 1 1 (by omega) (by omega) y z)
  pointwise [simT]
  simp only [num_zero]
  split
  · rename_i hb
    rw [dif_pos ⟨hb.1.1, hb.2.1⟩]
    refine (h ⟨(y.val - 1) * 30 + (z.val - 1), by omega⟩).trans (congrArg f (Fin.ext ?_))
    unfold pos place
    simp only
    omega
  · rename_i hb
    split
    · refine (h0 _ fun hi => hb ?_).symm
      rw [inside_place] at hi
      simp only at hi
      omega
    · rfl

end

end Cert.Proof
-- ==== Proof.RefResults.lean ====
module

public import proofs.«01_k».proof.Proof.RefPatches
public import proofs.«01_k».proof.Proof.RefSearch
public import proofs.«01_k».proof.Proof.RefLayout

/-! The reference's three results, each as a function of the two maps. -/

@[expose] public section

namespace Cert.Proof

open Idealize.ShloMosaic Cert.ReferenceIdeal Cert.ReferenceIdeal.Gen

noncomputable section

/-- The patches of a map. -/
abbrev patches (x : FVec Ideal S2x192x32x32 .f32) : FVec Ideal S2x1728x900 .f32 := patchesT (normT x)

/-- The correlations of the filters of `y` with the patches of `x`. -/
abbrev correlations (x y : FVec Ideal S2x192x32x32 .f32) : FVec Ideal S2x900x900 .f32 := corrT (filtersT (patches y)) (patches x)

/-- The first filter that matches the patch at `q` best. -/
def bestFilter (x y : FVec Ideal S2x192x32x32 .f32) (b : Fin 2) (q : Fin 900) : Fin 900 :=
  (exists_first (by omega) (fun k => correlations x y (ix3 b k q))).choose

/-- It is where the correlations are largest for the first time. -/
theorem bestFilter_spec (x y : FVec Ideal S2x192x32x32 .f32) (b : Fin 2) (q : Fin 900) :
    IsFirstMax (fun k => correlations x y (ix3 b k q)) (bestFilter x y b q) :=
  (exists_first (by omega) (fun k => correlations x y (ix3 b k q))).choose_spec

/-- It is the best of all flat positions, masked. -/
theorem best_pos (x y : FVec Ideal S2x192x32x32 .f32) (b : Fin 2) (q : Fin 900) :
    best (plane x b) (plane y b) (pos q) = pos (bestFilter x y b q) := by
  have h := bestFilter_spec x y b q
  simp only [corr_apply] at h
  exact (best_spec _ _ _).unique (first_max (fun c p => unit_bdd _ c) (fun c p => unit_bdd _ c) _ h)

/-- Outside the grid of patches there is no displacement. -/
theorem flow_outside (f g : Fin 192 → Fin 1024 → EReal) (d : Fin 2) (p : Fin 1024) (h : ¬ Inside p) : flow f g d p = 0 := if_neg h

/-- Outside the grid of patches there is no similarity. -/
theorem similarity_outside (f g : Fin 192 → Fin 1024 → EReal) (p : Fin 1024) (h : ¬ Inside p) : similarity f g p = 0 := if_neg h

/-- The flow map's entries. -/
theorem flow_entry (x y : FVec Ideal S2x192x32x32 .f32) (b : Fin 2) (r s : Fin 32) (d : Fin 2) :
    flowT (wordsT (correlations x y)) (ix4 b r s d) = flow (plane x b) (plane y b) d (place r s) := by
  have hw (r s : Fin 30) : wordsT (correlations x y) (ix3 b r s) = BitVec.ofNat 32 (bestFilter x y b ⟨r.val * 30 + s.val, by omega⟩).val := by
    refine Eq.trans ?_ (idx_apply _ _ _ _ (bestFilter_spec x y b ⟨r.val * 30 + s.val, by omega⟩))
    pointwise [wordsT]
  rw [flow_apply _ b r s d (fun r s => bestFilter x y b ⟨r.val * 30 + s.val, by omega⟩) hw]
  unfold flow
  by_cases h : r.val < 30 ∧ s.val < 30
  · have hp : place r s = pos ⟨r.val * 30 + s.val, by omega⟩ := by
      apply Fin.ext
      unfold place pos
      simp only
      omega
    rw [dif_pos h, if_pos ((inside_place r s).mpr h), ← best_pos, ← hp]
  · rw [dif_neg h, if_neg (fun hi => h ((inside_place r s).mp hi))]

/-- The first result. -/
theorem ref_displacement (x y : FVec Ideal S2x192x32x32 .f32) : flowT (wordsT (correlations x y)) = displacement x y := by
  funext j
  idx_vars j
  exact flow_entry x y j0 j1 j2 j3

/-- The second result. -/
theorem ref_displacements (x y : FVec Ideal S2x192x32x32 .f32) : offsetT (flowT (wordsT (correlations x y))) = displacements x y := by
  funext j
  idx_vars j
  exact offset_apply _ j0 j1 j2 j3 j4 (flow_outside _ _ _) fun r s => flow_entry x y j0 r s j4

/-- A best filter's correlation over the patch's length is the similarity at that patch. -/
theorem similarity_entry (x y : FVec Ideal S2x192x32x32 .f32) (b : Fin 2) (q : Fin 900) :
    Ideal.div (maxT (correlations x y) (ix2 b q)) (Ideal.sqrt (∑ e, patches x (ix3 b e q) * patches x (ix3 b e q)) + small)
      = similarity (plane x b) (plane y b) (pos q) := by
  have h1 : maxT (correlations x y) (ix2 b q) = corr (plane x b) (plane y b) (pos q) (pos (bestFilter x y b q)) :=
    (max_apply _ _ _ _ (bestFilter_spec x y b q)).trans (corr_apply _ _ _ _ _)
  have h2 : ∑ e, patches x (ix3 b e q) * patches x (ix3 b e q) = patchSq (plane x b) (pos q) := square_apply x b q
  rw [h1, h2]
  unfold similarity masked
  rw [if_pos (pos_inside q), best_pos, if_pos (pos_inside _), add_zero]
  rfl

/-- The third result. -/
theorem ref_similarities (x y : FVec Ideal S2x192x32x32 .f32) : simT (maxT (correlations x y)) (patches x) = similarities x y := by
  funext j
  idx_vars j
  obtain rfl : j1 = 0 := Subsingleton.elim _ _
  exact sim_apply _ _ j0 j2 j3 (similarity_outside (plane x j0) (plane y j0)) (similarity_entry x y j0)

end

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Arrays
public import proofs.«01_k».proof.Proof.RefRun
public import proofs.«01_k».proof.Proof.RefResults
public import Idealize.ShloMosaic.Adequacy
public import Idealize.ShloMosaic.Init
public import Idealize.ShloMosaic.Lib.Claim
public import Idealize.ShloMosaic.Lib.StableHlo.RunHlo

/-! The five claims about the matching kernel: its own run, its idealization's and the reference's each end with the
    arguments as they were, the idealization is the kernel's own text, and on the same two maps the kernel and the
    reference end with the same three results. The pieces are in Proof/: the mathematics of columns, patches and best
    matches (Columns, Match, FirstMax, Plane), the kernel's body and arrays (Patches, Matches, Blocks, Arrays), and the
    reference (RefStages, RefRun, RefPatches, RefSearch, RefLayout, RefResults). -/

@[expose] public section

noncomputable section

namespace Cert.Proof

open Idealize.ShloMosaic Idealize.SL.Sem

set_option maxHeartbeats 4000000 in
set_option maxRecDepth 16384 in
/-- The reference runs to the end, leaves its two arguments as they were, and has no semaphore that could count. -/
theorem frame_reference : Cert.quiescent_ReferenceIdeal := fun m ρ _ => by
  refine θ_run_mono (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) ?_
    fun r h => ⟨h, sem_eq_zero_of_no_sems (by decide) r.2⟩
  hlo_run

/-- The kernel and the reference, run on the same two maps, end with the same three results: the displacement of every
    place's best match, the displacements moved by the nine offsets of a patch, and the similarities. -/
theorem equal_results : Cert.algebraic_KernelIdeal_ReferenceIdeal := fun m g m' g' _ hagree =>
  ⟨fun c => displacement (arg0 m c) (arg1 m c), fun c => displacements (arg0 m c) (arg1 m c), fun c => similarities (arg0 m c) (arg1 m c),
    kernel_run m g, θ_run_mono (θ_run_and (run m' g') (frame_reference m' g' trivial)) fun r h c => by
      obtain ⟨h0, h1⟩ := hagree c
      obtain ⟨e0, e1, e2⟩ := h.1 c
      refine ⟨e0.trans ?_, e1.trans ?_, e2.trans ?_, h.2.1 c⟩
      · rw [ref_displacement, h0, h1]
      · rw [ref_displacements, h0, h1]
      · rw [ref_similarities, h0, h1]⟩

/-- All five claims: the three frames, the kernel's idealization, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal_results⟩

end Cert.Proof
end
